-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64 : Shape := ⟨1, ![64]⟩
abbrev S64x1 : Shape := ⟨2, ![64, 1]⟩
abbrev S_ : Shape := ⟨0, ![]⟩
abbrev S512 : Shape := ⟨1, ![512]⟩
abbrev S1x512 : Shape := ⟨2, ![1, 512]⟩
abbrev S64x512 : Shape := ⟨2, ![64, 512]⟩
abbrev S64x16384 : Shape := ⟨2, ![64, 16384]⟩

abbrev nBuf : Space → Nat
  | .hbm => 16
  | .vmem => 6
  | .smem => 0
  | _ => 0

abbrev bufTy : (tb : Table) → Fin (tcTables nBuf tb) → BufTy
  | .hbm, ⟨0, _⟩ => ⟨S64x1000000, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S512, .i32⟩
  | .hbm, ⟨7, _⟩ => ⟨S1x512, .i32⟩
  | .hbm, ⟨8, _⟩ => ⟨S64x512, .i32⟩
  | .hbm, ⟨9, _⟩ => ⟨S64x512, .i32⟩
  | .hbm, ⟨10, _⟩ => ⟨S64x512, .i32⟩
  | .hbm, ⟨11, _⟩ => ⟨S_, .i32⟩
  | .hbm, ⟨12, _⟩ => ⟨S64x512, .i32⟩
  | .hbm, ⟨13, _⟩ => ⟨S64x512, .i32⟩
  | .hbm, ⟨14, _⟩ => ⟨S64x1, .i32⟩
  | .hbm, ⟨15, _⟩ => ⟨S64, .i32⟩
  | .local _ .vmem, ⟨0, _⟩ => ⟨S64x16384, .f32⟩
  | .local _ .vmem, ⟨1, _⟩ => ⟨S64x16384, .f32⟩
  | .local _ .vmem, ⟨2, _⟩ => ⟨S64x512, .i32⟩
  | .local _ .vmem, ⟨3, _⟩ => ⟨S64x1, .i32⟩
  | .local _ .vmem, ⟨4, _⟩ => ⟨S64x1, .f32⟩
  | .local _ .vmem, ⟨5, _⟩ => ⟨S64x1, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![62], ![false]⟩

def k0_cond4 (i : grid0.Coords) : BitVec 1 :=
  let arg0 : BitVec 32 := BitVec.ofNat 32 (i 0).val
  let c61_i32_4 : BitVec 32 := 61#32
  let v11 : BitVec 1 := Scalar.cmpi .eq arg0 c61_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S64x1000000 : Shape := ⟨2, ![64, 1000000]⟩
abbrev S_ : Shape := ⟨0, ![]⟩
abbrev S1 : Shape := ⟨1, ![1]⟩
abbrev S2 : Shape := ⟨1, ![2]⟩
abbrev S64 : Shape := ⟨1, ![64]⟩

abbrev nBuf : Space → Nat
  | .hbm => 518
  | .vmem => 0
  | .smem => 0
  | _ => 0

abbrev hbmTy0_0 (i : Nat) : BufTy := match i % 128 with
  | 0 => ⟨S64x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S64x1000000, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S1, .i32⟩
  | 121 => ⟨S_, .i32⟩
  | 122 => ⟨S1, .i32⟩
  | 123 => ⟨S_, .i32⟩
  | 124 => ⟨S64x1000000, .i64⟩
  | 125 => ⟨S64x1000000, .i64⟩
  | 126 => ⟨S_, .i64⟩
  | 127 => ⟨S64x1000000, .i64⟩
  | _ => ⟨S64x1000000, .f32⟩

abbrev hbmTy0_2 (i : Nat) : BufTy := match i % 128 with
  | 0 => ⟨S64x1000000, .i64⟩
  | 1 => ⟨S_, .i64⟩
  | 2 => ⟨S64x1000000, .i64⟩
  | 3 => ⟨S64x1000000, .i64⟩
  | 4 => ⟨S64x1000000, .i64⟩
  | 5 => ⟨S_, .i64⟩
  | 6 => ⟨S64x1000000, .i64⟩
  | 7 => ⟨S64x1000000, .i64⟩
  | 8 => ⟨S64x1000000, .i32⟩
  | 9 => ⟨S64x1000000, .i32⟩
  | 10 => ⟨S_, .i32⟩
  | 11 => ⟨S_, .i32⟩
  | 12 => ⟨S_, .i32⟩
  | 13 => ⟨S64x1000000, .i32⟩
  | 14 => ⟨S64x1000000, .i32⟩
  | 15 => ⟨S64x1000000, .i32⟩
  | 16 => ⟨S64x1000000, .i32⟩
  | 17 => ⟨S64x1000000, .i32⟩
  | 18 => ⟨S_, .i32⟩
  | 19 => ⟨S64x1000000, .i32⟩
  | 20 => ⟨S64x1000000, .i32⟩
  | 21 => ⟨S_, .i32⟩
  | 22 => ⟨S64x1000000, .i32⟩
  | 23 => ⟨S64x1000000, .i32⟩
  | 24 => ⟨S64x1000000, .i32⟩
  | 25 => ⟨S64x1000000, .i32⟩
  | 26 => ⟨S64x1000000, .i32⟩
  | 27 => ⟨S_, .i32⟩
  | 28 => ⟨S64x1000000, .i32⟩
  | 29 => ⟨S64x1000000, .i32⟩
  | 30 => ⟨S_, .i32⟩
  | 31 => ⟨S64x1000000, .i32⟩
  | 32 => ⟨S64x1000000, .i32⟩
  | 33 => ⟨S64x1000000, .i32⟩
  | 34 => ⟨S64x1000000, .i32⟩
  | 35 => ⟨S64x1000000, .i32⟩
  | 36 => ⟨S_, .i32⟩
  | 37 => ⟨S64x1000000, .i32⟩
  | 38 => ⟨S64x1000000, .i32⟩
  | 39 => ⟨S_, .i32⟩
  | 40 => ⟨S64x1000000, .i32⟩
  | 41 => ⟨S64x1000000, .i32⟩
  | 42 => ⟨S64x1000000, .i32⟩
  | 43 => ⟨S64x1000000, .i32⟩
  | 44 => ⟨S64x1000000, .i32⟩
  | 45 => ⟨S_, .i32⟩
  | 46 => ⟨S64x1000000, .i32⟩
  | 47 => ⟨S64x1000000, .i32⟩
  | 48 => ⟨S_, .i32⟩
  | 49 => ⟨S64x1000000, .i32⟩
  | 50 => ⟨S64x1000000, .i32⟩
  | 51 => ⟨S64x1000000, .i32⟩
  | 52 => ⟨S64x1000000, .i32⟩
  | 53 => ⟨S64x1000000, .i32⟩
  | 54 => ⟨S64x1000000, .i32⟩
  | 55 => ⟨S64x1000000, .i32⟩
  | 56 => ⟨S64x1000000, .i32⟩
  | 57 => ⟨S_, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S_, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S_, .i32⟩
  | 89 => ⟨S64x1000000, .i32⟩
  | 90 => ⟨S64x1000000, .i32⟩
  | 91 => ⟨S_, .i32⟩
  | 92 => ⟨S64x1000000, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S64x1000000, .i32⟩
  | 100 => ⟨S_, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S_, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_3 (i : Nat) : BufTy := match i % 128 with
  | 0 => ⟨S64x1000000, .i32⟩
  | 1 => ⟨S64x1000000, .i32⟩
  | 2 => ⟨S64x1000000, .i32⟩
  | 3 => ⟨S_, .i32⟩
  | 4 => ⟨S64x1000000, .i32⟩
  | 5 => ⟨S64x1000000, .i32⟩
  | 6 => ⟨S_, .i32⟩
  | 7 => ⟨S64x1000000, .i32⟩
  | 8 => ⟨S64x1000000, .i32⟩
  | 9 => ⟨S64x1000000, .i32⟩
  | 10 => ⟨S64x1000000, .i32⟩
  | 11 => ⟨S64x1000000, .i32⟩
  | 12 => ⟨S64x1000000, .i32⟩
  | 13 => ⟨S64x1000000, .i32⟩
  | 14 => ⟨S64x1000000, .i32⟩
  | 15 => ⟨S_, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S_, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S_, .i32⟩
  | 50 => ⟨S64x1000000, .i32⟩
  | 51 => ⟨S64x1000000, .i32⟩
  | 52 => ⟨S64x1000000, .i32⟩
  | 53 => ⟨S64x1000000, .i32⟩
  | 54 => ⟨S64x1000000, .i32⟩
  | 55 => ⟨S64x1000000, .i32⟩
  | 56 => ⟨S64x1000000, .i32⟩
  | 57 => ⟨S64x1000000, .i32⟩
  | 58 => ⟨S_, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S_, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S_, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S64x1000000, .i32⟩
  | 100 => ⟨S64x1000000, .i32⟩
  | 101 => ⟨S_, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .f32⟩
  | 112 => ⟨S_, .f32⟩
  | 113 => ⟨S64x1000000, .f32⟩
  | 114 => ⟨S64x1000000, .f32⟩
  | 115 => ⟨S_, .f32⟩
  | 116 => ⟨S64x1000000, .f32⟩
  | 117 => ⟨S64x1000000, .f32⟩
  | 118 => ⟨S_, .f32⟩
  | 119 => ⟨S64x1000000, .f32⟩
  | 120 => ⟨S64x1000000, .f32⟩
  | 121 => ⟨S_, .f32⟩
  | 122 => ⟨S64x1000000, .f32⟩
  | 123 => ⟨S64x1000000, .f32⟩
  | 124 => ⟨S64x1000000, .f32⟩
  | 125 => ⟨S64x1000000, .f32⟩
  | 126 => ⟨S64x1000000, .f32⟩
  | 127 => ⟨S64x1000000, .f32⟩
  | _ => ⟨S64x1000000, .f32⟩

abbrev hbmTy0_4 (i : Nat) : BufTy := match i % 128 with
  | 0 => ⟨S64x1000000, .f32⟩
  | 1 => ⟨S64x1000000, .i32⟩
  | 2 => ⟨S_, .f32⟩
  | 3 => ⟨S_, .i32⟩
  | 4 => ⟨S64, .f32⟩
  | 5 => ⟨S64, .i32⟩
  | _ => ⟨S64x1000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_v8 : Ref sig .tc := ⟨.hbm, 248, rfl⟩
abbrev main_v9 : Ref sig .tc := ⟨.hbm, 249, rfl⟩
abbrev main_v10 : Ref sig .tc := ⟨.hbm, 250, rfl⟩
abbrev main_v11 : Ref sig .tc := ⟨.hbm, 251, rfl⟩
abbrev main_v12 : Ref sig .tc := ⟨.hbm, 252, rfl⟩
abbrev main_v13 : Ref sig .tc := ⟨.hbm, 253, rfl⟩
abbrev main_c_3 : Ref sig .tc := ⟨.hbm, 254, rfl⟩
abbrev main_v14 : Ref sig .tc := ⟨.hbm, 255, rfl⟩
abbrev main_v15 : Ref sig .tc := ⟨.hbm, 256, rfl⟩
abbrev main_c_4 : Ref sig .tc := ⟨.hbm, 257, rfl⟩
abbrev main_v16 : Ref sig .tc := ⟨.hbm, 258, rfl⟩
abbrev main_v17 : Ref sig .tc := ⟨.hbm, 259, rfl⟩
abbrev main_v18 : Ref sig .tc := ⟨.hbm, 260, rfl⟩
abbrev main_c_5 : Ref sig .tc := ⟨.hbm, 261, rfl⟩
abbrev main_v19 : Ref sig .tc := ⟨.hbm, 262, rfl⟩
abbrev main_v20 : Ref sig .tc := ⟨.hbm, 263, rfl⟩
abbrev main_v21 : Ref sig .tc := ⟨.hbm, 264, rfl⟩
abbrev main_v22 : Ref sig .tc := ⟨.hbm, 265, rfl⟩
abbrev main_call1_v0 : Ref sig .tc := ⟨.hbm, 266, rfl⟩
abbrev main_call1_c : Ref sig .tc := ⟨.hbm, 267, rfl⟩
abbrev main_call1_v1 : Ref sig .tc := ⟨.hbm, 268, rfl⟩
abbrev main_call1_v2 : Ref sig .tc := ⟨.hbm, 269, rfl⟩
abbrev main_call1_v3 : Ref sig .tc := ⟨.hbm, 270, rfl⟩
abbrev main_call1_v4 : Ref sig .tc := ⟨.hbm, 271, rfl⟩
abbrev main_call1_v5 : Ref sig .tc := ⟨.hbm, 272, rfl⟩
abbrev main_call1_v6 : Ref sig .tc := ⟨.hbm, 273, rfl⟩
abbrev main_call1_c_0 : Ref sig .tc := ⟨.hbm, 274, rfl⟩
abbrev main_call1_v7 : Ref sig .tc := ⟨.hbm, 275, rfl⟩
abbrev main_call1_v8 : Ref sig .tc := ⟨.hbm, 276, rfl⟩
abbrev main_call1_c_1 : Ref sig .tc := ⟨.hbm, 277, rfl⟩
abbrev main_call1_v9 : Ref sig .tc := ⟨.hbm, 278, rfl⟩
abbrev main_call1_v10 : Ref sig .tc := ⟨.hbm, 279, rfl⟩
abbrev main_call1_v11 : Ref sig .tc := ⟨.hbm, 280, rfl⟩
abbrev main_call1_v12 : Ref sig .tc := ⟨.hbm, 281, rfl⟩
abbrev main_call1_v13 : Ref sig .tc := ⟨.hbm, 282, rfl⟩
abbrev main_call1_c_2 : Ref sig .tc := ⟨.hbm, 283, rfl⟩
abbrev main_call1_v14 : Ref sig .tc := ⟨.hbm, 284, rfl⟩
abbrev main_call1_v15 : Ref sig .tc := ⟨.hbm, 285, rfl⟩
abbrev main_call1_c_3 : Ref sig .tc := ⟨.hbm, 286, rfl⟩
abbrev main_call1_v16 : Ref sig .tc := ⟨.hbm, 287, rfl⟩
abbrev main_call1_v17 : Ref sig .tc := ⟨.hbm, 288, rfl⟩
abbrev main_call1_v18 : Ref sig .tc := ⟨.hbm, 289, rfl⟩
abbrev main_call1_v19 : Ref sig .tc := ⟨.hbm, 290, rfl⟩
abbrev main_call1_v20 : Ref sig .tc := ⟨.hbm, 291, rfl⟩
abbrev main_call1_c_4 : Ref sig .tc := ⟨.hbm, 292, rfl⟩
abbrev main_call1_v21 : Ref sig .tc := ⟨.hbm, 293, rfl⟩
abbrev main_call1_v22 : Ref sig .tc := ⟨.hbm, 294, rfl⟩
abbrev main_call1_c_5 : Ref sig .tc := ⟨.hbm, 295, rfl⟩
abbrev main_call1_v23 : Ref sig .tc := ⟨.hbm, 296, rfl⟩
abbrev main_call1_v24 : Ref sig .tc := ⟨.hbm, 297, rfl⟩
abbrev main_call1_v25 : Ref sig .tc := ⟨.hbm, 298, rfl⟩
abbrev main_call1_v26 : Ref sig .tc := ⟨.hbm, 299, rfl⟩
abbrev main_call1_v27 : Ref sig .tc := ⟨.hbm, 300, rfl⟩
abbrev main_call1_c_6 : Ref sig .tc := ⟨.hbm, 301, rfl⟩
abbrev main_call1_v28 : Ref sig .tc := ⟨.hbm, 302, rfl⟩
abbrev main_call1_v29 : Ref sig .tc := ⟨.hbm, 303, rfl⟩
abbrev main_call1_c_7 : Ref sig .tc := ⟨.hbm, 304, rfl⟩
abbrev main_call1_v30 : Ref sig .tc := ⟨.hbm, 305, rfl⟩
abbrev main_call1_v31 : Ref sig .tc := ⟨.hbm, 306, rfl⟩
abbrev main_call1_v32 : Ref sig .tc := ⟨.hbm, 307, rfl⟩
abbrev main_call1_v33 : Ref sig .tc := ⟨.hbm, 308, rfl⟩
abbrev main_call1_v34 : Ref sig .tc := ⟨.hbm, 309, rfl⟩
abbrev main_call1_v35 : Ref sig .tc := ⟨.hbm, 310, rfl⟩
abbrev main_call1_v36 : Ref sig .tc := ⟨.hbm, 311, rfl⟩
abbrev main_call1_v37 : Ref sig .tc := ⟨.hbm, 312, rfl⟩
abbrev main_call1_c_8 : Ref sig .tc := ⟨.hbm, 313, rfl⟩
abbrev main_call1_v38 : Ref sig .tc := ⟨.hbm, 314, rfl⟩
abbrev main_call1_v39 : Ref sig .tc := ⟨.hbm, 315, rfl⟩
abbrev main_call1_v40 : Ref sig .tc := ⟨.hbm, 316, rfl⟩
abbrev main_call1_c_9 : Ref sig .tc := ⟨.hbm, 317, rfl⟩
abbrev main_call1_v41 : Ref sig .tc := ⟨.hbm, 318, rfl⟩
abbrev main_call1_v42 : Ref sig .tc := ⟨.hbm, 319, rfl⟩
abbrev main_call1_c_10 : Ref sig .tc := ⟨.hbm, 320, rfl⟩
abbrev main_call1_v43 : Ref sig .tc := ⟨.hbm, 321, rfl⟩
abbrev main_call1_v44 : Ref sig .tc := ⟨.hbm, 322, rfl⟩
abbrev main_call1_v45 : Ref sig .tc := ⟨.hbm, 323, rfl⟩
abbrev main_call1_v46 : Ref sig .tc := ⟨.hbm, 324, rfl⟩
abbrev main_call1_v47 : Ref sig .tc := ⟨.hbm, 325, rfl⟩
abbrev main_call1_c_11 : Ref sig .tc := ⟨.hbm, 326, rfl⟩
abbrev main_call1_v48 : Ref sig .tc := ⟨.hbm, 327, rfl⟩
abbrev main_call1_v49 : Ref sig .tc := ⟨.hbm, 328, rfl⟩
abbrev main_call1_c_12 : Ref sig .tc := ⟨.hbm, 329, rfl⟩
abbrev main_call1_v50 : Ref sig .tc := ⟨.hbm, 330, rfl⟩
abbrev main_call1_v51 : Ref sig .tc := ⟨.hbm, 331, rfl⟩
abbrev main_call1_v52 : Ref sig .tc := ⟨.hbm, 332, rfl⟩
abbrev main_call1_v53 : Ref sig .tc := ⟨.hbm, 333, rfl⟩
abbrev main_call1_v54 : Ref sig .tc := ⟨.hbm, 334, rfl⟩
abbrev main_call1_c_13 : Ref sig .tc := ⟨.hbm, 335, rfl⟩
abbrev main_call1_v55 : Ref sig .tc := ⟨.hbm, 336, rfl⟩
abbrev main_call1_v56 : Ref sig .tc := ⟨.hbm, 337, rfl⟩
abbrev main_call1_c_14 : Ref sig .tc := ⟨.hbm, 338, rfl⟩
abbrev main_call1_v57 : Ref sig .tc := ⟨.hbm, 339, rfl⟩
abbrev main_call1_v58 : Ref sig .tc := ⟨.hbm, 340, rfl⟩
abbrev main_call1_v59 : Ref sig .tc := ⟨.hbm, 341, rfl⟩
abbrev main_call1_v60 : Ref sig .tc := ⟨.hbm, 342, rfl⟩
abbrev main_call1_v61 : Ref sig .tc := ⟨.hbm, 343, rfl⟩
abbrev main_call1_c_15 : Ref sig .tc := ⟨.hbm, 344, rfl⟩
abbrev main_call1_v62 : Ref sig .tc := ⟨.hbm, 345, rfl⟩
abbrev main_call1_v63 : Ref sig .tc := ⟨.hbm, 346, rfl⟩
abbrev main_call1_c_16 : Ref sig .tc := ⟨.hbm, 347, rfl⟩
abbrev main_call1_v64 : Ref sig .tc := ⟨.hbm, 348, rfl⟩
abbrev main_call1_v65 : Ref sig .tc := ⟨.hbm, 349, rfl⟩
abbrev main_call1_v66 : Ref sig .tc := ⟨.hbm, 350, rfl⟩
abbrev main_call1_v67 : Ref sig .tc := ⟨.hbm, 351, rfl⟩
abbrev main_call1_v68 : Ref sig .tc := ⟨.hbm, 352, rfl⟩
abbrev main_call1_v69 : Ref sig .tc := ⟨.hbm, 353, rfl⟩
abbrev main_call1_v70 : Ref sig .tc := ⟨.hbm, 354, rfl⟩
abbrev main_call1_v71 : Ref sig .tc := ⟨.hbm, 355, rfl⟩
abbrev main_call1_c_17 : Ref sig .tc := ⟨.hbm, 356, rfl⟩
abbrev main_call1_v72 : Ref sig .tc := ⟨.hbm, 357, rfl⟩
abbrev main_call1_v73 : Ref sig .tc := ⟨.hbm, 358, rfl⟩
abbrev main_call1_v74 : Ref sig .tc := ⟨.hbm, 359, rfl⟩
abbrev main_call1_c_18 : Ref sig .tc := ⟨.hbm, 360, rfl⟩
abbrev main_call1_v75 : Ref sig .tc := ⟨.hbm, 361, rfl⟩
abbrev main_call1_v76 : Ref sig .tc := ⟨.hbm, 362, rfl⟩
abbrev main_call1_c_19 : Ref sig .tc := ⟨.hbm, 363, rfl⟩
abbrev main_call1_v77 : Ref sig .tc := ⟨.hbm, 364, rfl⟩
abbrev main_call1_v78 : Ref sig .tc := ⟨.hbm, 365, rfl⟩
abbrev main_call1_v79 : Ref sig .tc := ⟨.hbm, 366, rfl⟩
abbrev main_call1_v80 : Ref sig .tc := ⟨.hbm, 367, rfl⟩
abbrev main_call1_v81 : Ref sig .tc := ⟨.hbm, 368, rfl⟩
abbrev main_call1_c_20 : Ref sig .tc := ⟨.hbm, 369, rfl⟩
abbrev main_call1_v82 : Ref sig .tc := ⟨.hbm, 370, rfl⟩
abbrev main_call1_v83 : Ref sig .tc := ⟨.hbm, 371, rfl⟩
abbrev main_call1_c_21 : Ref sig .tc := ⟨.hbm, 372, rfl⟩
abbrev main_call1_v84 : Ref sig .tc := ⟨.hbm, 373, rfl⟩
abbrev main_call1_v85 : Ref sig .tc := ⟨.hbm, 374, rfl⟩
abbrev main_call1_v86 : Ref sig .tc := ⟨.hbm, 375, rfl⟩
abbrev main_call1_v87 : Ref sig .tc := ⟨.hbm, 376, rfl⟩
abbrev main_call1_v88 : Ref sig .tc := ⟨.hbm, 377, rfl⟩
abbrev main_call1_c_22 : Ref sig .tc := ⟨.hbm, 378, rfl⟩
abbrev main_call1_v89 : Ref sig .tc := ⟨.hbm, 379, rfl⟩
abbrev main_call1_v90 : Ref sig .tc := ⟨.hbm, 380, rfl⟩
abbrev main_call1_c_23 : Ref sig .tc := ⟨.hbm, 381, rfl⟩
abbrev main_call1_v91 : Ref sig .tc := ⟨.hbm, 382, rfl⟩
abbrev main_call1_v92 : Ref sig .tc := ⟨.hbm, 383, rfl⟩
abbrev main_call1_v93 : Ref sig .tc := ⟨.hbm, 384, rfl⟩
abbrev main_call1_v94 : Ref sig .tc := ⟨.hbm, 385, rfl⟩
abbrev main_call1_v95 : Ref sig .tc := ⟨.hbm, 386, rfl⟩
abbrev main_call1_c_24 : Ref sig .tc := ⟨.hbm, 387, rfl⟩
abbrev main_call1_v96 : Ref sig .tc := ⟨.hbm, 388, rfl⟩
abbrev main_call1_v97 : Ref sig .tc := ⟨.hbm, 389, rfl⟩
abbrev main_call1_c_25 : Ref sig .tc := ⟨.hbm, 390, rfl⟩
abbrev main_call1_v98 : Ref sig .tc := ⟨.hbm, 391, rfl⟩
abbrev main_call1_v99 : Ref sig .tc := ⟨.hbm, 392, rfl⟩
abbrev main_call1_v100 : Ref sig .tc := ⟨.hbm, 393, rfl⟩
abbrev main_call1_v101 : Ref sig .tc := ⟨.hbm, 394, rfl⟩
abbrev main_call1_v102 : Ref sig .tc := ⟨.hbm, 395, rfl⟩
abbrev main_call1_v103 : Ref sig .tc := ⟨.hbm, 396, rfl⟩
abbrev main_call1_v104 : Ref sig .tc := ⟨.hbm, 397, rfl⟩
abbrev main_call1_v105 : Ref sig .tc := ⟨.hbm, 398, rfl⟩
abbrev main_call1_c_26 : Ref sig .tc := ⟨.hbm, 399, rfl⟩
abbrev main_call1_v106 : Ref sig .tc := ⟨.hbm, 400, rfl⟩
abbrev main_call1_v107 : Ref sig .tc := ⟨.hbm, 401, rfl⟩
abbrev main_call1_v108 : Ref sig .tc := ⟨.hbm, 402, rfl⟩
abbrev main_call1_c_27 : Ref sig .tc := ⟨.hbm, 403, rfl⟩
abbrev main_call1_v109 : Ref sig .tc := ⟨.hbm, 404, rfl⟩
abbrev main_call1_v110 : Ref sig .tc := ⟨.hbm, 405, rfl⟩
abbrev main_call1_c_28 : Ref sig .tc := ⟨.hbm, 406, rfl⟩
abbrev main_call1_v111 : Ref sig .tc := ⟨.hbm, 407, rfl⟩
abbrev main_call1_v112 : Ref sig .tc := ⟨.hbm, 408, rfl⟩
abbrev main_call1_v113 : Ref sig .tc := ⟨.hbm, 409, rfl⟩
abbrev main_call1_v114 : Ref sig .tc := ⟨.hbm, 410, rfl⟩
abbrev main_call1_v115 : Ref sig .tc := ⟨.hbm, 411, rfl⟩
abbrev main_call1_c_29 : Ref sig .tc := ⟨.hbm, 412, rfl⟩
abbrev main_call1_v116 : Ref sig .tc := ⟨.hbm, 413, rfl⟩
abbrev main_call1_v117 : Ref sig .tc := ⟨.hbm, 414, rfl⟩
abbrev main_call1_c_30 : Ref sig .tc := ⟨.hbm, 415, rfl⟩
abbrev main_call1_v118 : Ref sig .tc := ⟨.hbm, 416, rfl⟩
abbrev main_call1_v119 : Ref sig .tc := ⟨.hbm, 417, rfl⟩
abbrev main_call1_v120 : Ref sig .tc := ⟨.hbm, 418, rfl⟩
abbrev main_call1_v121 : Ref sig .tc := ⟨.hbm, 419, rfl⟩
abbrev main_call1_v122 : Ref sig .tc := ⟨.hbm, 420, rfl⟩
abbrev main_call1_c_31 : Ref sig .tc := ⟨.hbm, 421, rfl⟩
abbrev main_call1_v123 : Ref sig .tc := ⟨.hbm, 422, rfl⟩
abbrev main_call1_v124 : Ref sig .tc := ⟨.hbm, 423, rfl⟩
abbrev main_call1_c_32 : Ref sig .tc := ⟨.hbm, 424, rfl⟩
abbrev main_call1_v125 : Ref sig .tc := ⟨.hbm, 425, rfl⟩
abbrev main_call1_v126 : Ref sig .tc := ⟨.hbm, 426, rfl⟩
abbrev main_call1_v127 : Ref sig .tc := ⟨.hbm, 427, rfl⟩
abbrev main_call1_v128 : Ref sig .tc := ⟨.hbm, 428, rfl⟩
abbrev main_call1_v129 : Ref sig .tc := ⟨.hbm, 429, rfl⟩
abbrev main_call1_c_33 : Ref sig .tc := ⟨.hbm, 430, rfl⟩
abbrev main_call1_v130 : Ref sig .tc := ⟨.hbm, 431, rfl⟩
abbrev main_call1_v131 : Ref sig .tc := ⟨.hbm, 432, rfl⟩
abbrev main_call1_c_34 : Ref sig .tc := ⟨.hbm, 433, rfl⟩
abbrev main_call1_v132 : Ref sig .tc := ⟨.hbm, 434, rfl⟩
abbrev main_call1_v133 : Ref sig .tc := ⟨.hbm, 435, rfl⟩
abbrev main_call1_v134 : Ref sig .tc := ⟨.hbm, 436, rfl⟩
abbrev main_call1_v135 : Ref sig .tc := ⟨.hbm, 437, rfl⟩
abbrev main_call1_v136 : Ref sig .tc := ⟨.hbm, 438, rfl⟩
abbrev main_call1_v137 : Ref sig .tc := ⟨.hbm, 439, rfl⟩
abbrev main_call1_v138 : Ref sig .tc := ⟨.hbm, 440, rfl⟩
abbrev main_call1_v139 : Ref sig .tc := ⟨.hbm, 441, rfl⟩
abbrev main_call1_c_35 : Ref sig .tc := ⟨.hbm, 442, rfl⟩
abbrev main_call1_v140 : Ref sig .tc := ⟨.hbm, 443, rfl⟩
abbrev main_call1_v141 : Ref sig .tc := ⟨.hbm, 444, rfl⟩
abbrev main_call1_v142 : Ref sig .tc := ⟨.hbm, 445, rfl⟩
abbrev main_call1_c_36 : Ref sig .tc := ⟨.hbm, 446, rfl⟩
abbrev main_call1_v143 : Ref sig .tc := ⟨.hbm, 447, rfl⟩
abbrev main_call1_v144 : Ref sig .tc := ⟨.hbm, 448, rfl⟩
abbrev main_call1_c_37 : Ref sig .tc := ⟨.hbm, 449, rfl⟩
abbrev main_call1_v145 : Ref sig .tc := ⟨.hbm, 450, rfl⟩
abbrev main_call1_v146 : Ref sig .tc := ⟨.hbm, 451, rfl⟩
abbrev main_call1_v147 : Ref sig .tc := ⟨.hbm, 452, rfl⟩
abbrev main_call1_v148 : Ref sig .tc := ⟨.hbm, 453, rfl⟩
abbrev main_call1_v149 : Ref sig .tc := ⟨.hbm, 454, rfl⟩
abbrev main_call1_c_38 : Ref sig .tc := ⟨.hbm, 455, rfl⟩
abbrev main_call1_v150 : Ref sig .tc := ⟨.hbm, 456, rfl⟩
abbrev main_call1_v151 : Ref sig .tc := ⟨.hbm, 457, rfl⟩
abbrev main_call1_c_39 : Ref sig .tc := ⟨.hbm, 458, rfl⟩
abbrev main_call1_v152 : Ref sig .tc := ⟨.hbm, 459, rfl⟩
abbrev main_call1_v153 : Ref sig .tc := ⟨.hbm, 460, rfl⟩
abbrev main_call1_v154 : Ref sig .tc := ⟨.hbm, 461, rfl⟩
abbrev main_call1_v155 : Ref sig .tc := ⟨.hbm, 462, rfl⟩
abbrev main_call1_v156 : Ref sig .tc := ⟨.hbm, 463, rfl⟩
abbrev main_call1_c_40 : Ref sig .tc := ⟨.hbm, 464, rfl⟩
abbrev main_call1_v157 : Ref sig .tc := ⟨.hbm, 465, rfl⟩
abbrev main_call1_v158 : Ref sig .tc := ⟨.hbm, 466, rfl⟩
abbrev main_call1_c_41 : Ref sig .tc := ⟨.hbm, 467, rfl⟩
abbrev main_call1_v159 : Ref sig .tc := ⟨.hbm, 468, rfl⟩
abbrev main_call1_v160 : Ref sig .tc := ⟨.hbm, 469, rfl⟩
abbrev main_call1_v161 : Ref sig .tc := ⟨.hbm, 470, rfl⟩
abbrev main_call1_v162 : Ref sig .tc := ⟨.hbm, 471, rfl⟩
abbrev main_call1_v163 : Ref sig .tc := ⟨.hbm, 472, rfl⟩
abbrev main_call1_c_42 : Ref sig .tc := ⟨.hbm, 473, rfl⟩
abbrev main_call1_v164 : Ref sig .tc := ⟨.hbm, 474, rfl⟩
abbrev main_call1_v165 : Ref sig .tc := ⟨.hbm, 475, rfl⟩
abbrev main_call1_c_43 : Ref sig .tc := ⟨.hbm, 476, rfl⟩
abbrev main_call1_v166 : Ref sig .tc := ⟨.hbm, 477, rfl⟩
abbrev main_call1_v167 : Ref sig .tc := ⟨.hbm, 478, rfl⟩
abbrev main_call1_v168 : Ref sig .tc := ⟨.hbm, 479, rfl⟩
abbrev main_call1_v169 : Ref sig .tc := ⟨.hbm, 480, rfl⟩
abbrev main_call1_v170 : Ref sig .tc := ⟨.hbm, 481, rfl⟩
abbrev main_v23_0 : Ref sig .tc := ⟨.hbm, 482, rfl⟩
abbrev main_call1_v172 : Ref sig .tc := ⟨.hbm, 483, rfl⟩
abbrev main_call1_v173 : Ref sig .tc := ⟨.hbm, 484, rfl⟩
abbrev main_call1_c_44 : Ref sig .tc := ⟨.hbm, 485, rfl⟩
abbrev main_call1_v174 : Ref sig .tc := ⟨.hbm, 486, rfl⟩
abbrev main_v23_1 : Ref sig .tc := ⟨.hbm, 487, rfl⟩
abbrev main_v24 : Ref sig .tc := ⟨.hbm, 488, rfl⟩
abbrev main_c_6 : Ref sig .tc := ⟨.hbm, 489, rfl⟩
abbrev main_v25 : Ref sig .tc := ⟨.hbm, 490, rfl⟩
abbrev main_v26 : Ref sig .tc := ⟨.hbm, 491, rfl⟩
abbrev main_c_7 : Ref sig .tc := ⟨.hbm, 492, rfl⟩
abbrev main_v27 : Ref sig .tc := ⟨.hbm, 493, rfl⟩
abbrev main_v28 : Ref sig .tc := ⟨.hbm, 494, rfl⟩
abbrev main_v29 : Ref sig .tc := ⟨.hbm, 495, rfl⟩
abbrev main_cst : Ref sig .tc := ⟨.hbm, 496, rfl⟩
abbrev main_v30 : Ref sig .tc := ⟨.hbm, 497, rfl⟩
abbrev main_v31 : Ref sig .tc := ⟨.hbm, 498, rfl⟩
abbrev main_cst_8 : Ref sig .tc := ⟨.hbm, 499, rfl⟩
abbrev main_v32 : Ref sig .tc := ⟨.hbm, 500, rfl⟩
abbrev main_v33 : Ref sig .tc := ⟨.hbm, 501, rfl⟩
abbrev main_cst_9 : Ref sig .tc := ⟨.hbm, 502, rfl⟩
abbrev main_v34 : Ref sig .tc := ⟨.hbm, 503, rfl⟩
abbrev main_v35 : Ref sig .tc := ⟨.hbm, 504, rfl⟩
abbrev main_cst_10 : Ref sig .tc := ⟨.hbm, 505, rfl⟩
abbrev main_v36 : Ref sig .tc := ⟨.hbm, 506, rfl⟩
abbrev main_v37 : Ref sig .tc := ⟨.hbm, 507, rfl⟩
abbrev main_v38 : Ref sig .tc := ⟨.hbm, 508, rfl⟩
abbrev main_v39 : Ref sig .tc := ⟨.hbm, 509, rfl⟩
abbrev main_v40 : Ref sig .tc := ⟨.hbm, 510, rfl⟩
abbrev main_v41 : Ref sig .tc := ⟨.hbm, 511, rfl⟩
abbrev main_v42 : Ref sig .tc := ⟨.hbm, 512, rfl⟩
abbrev main_call2_v0 : Ref sig .tc := ⟨.hbm, 513, rfl⟩
abbrev main_call2_cst : Ref sig .tc := ⟨.hbm, 514, rfl⟩
abbrev main_call2_c : Ref sig .tc := ⟨.hbm, 515, rfl⟩
abbrev main_call2_v1_0 : Ref sig .tc := ⟨.hbm, 516, rfl⟩
abbrev main_v43 : Ref sig .tc := ⟨.hbm, 517, rfl⟩

abbrev nD : Nat := 1
abbrev τ : Topo := Topo.v7x

variable {F : FTy → Type} [FloatOps F]
-- ==== Proof.Chunk.lean ====
/-
  The kernel's body of `KernelIdeal` as a short program: the 34 unrolled chunks the text spells out are 34 instances
  of one chunk program (`chunk`), and the printed body is those instances in order (`body_eq`).
-/
module

public import proofs.«01_k».proof.Proof.Gen.KernelIdeal

@[expose] public section

set_option maxRecDepth 65536

noncomputable section

namespace Cert.KernelIdeal.Own

open Idealize.ShloMosaic Idealize.SL.Sem
open Cert.KernelIdeal Cert.KernelIdeal.Facts₀ Cert.KernelIdeal.Facts

variable {F : FTy → Type} [FloatOps F] [Facts]

/-- A vector of words of one chunk. -/
abbrev W := IVec S64x512 32

/-- A word vector rotated left by `l` bits, `r` being `32 - l`. -/
def rot (l r : BitVec 32) (x : W) : W := ori (shli x (broadcast S64x512 l)) (shrui x (broadcast S64x512 r))

/-- One round of the generator on a pair of word vectors. -/
def rnd (l r : BitVec 32) (p : W × W) : W × W := (addi p.1 p.2, xori (rot l r p.2) (addi p.1 p.2))

/-- The keys added after a group of four rounds: `a` to the first word, `b` and then the group's number `n` to the second. -/
def inj (a b n : BitVec 32) (p : W × W) : W × W :=
  (addi p.1 (broadcast S64x512 a), addi (addi p.2 (broadcast S64x512 b)) (broadcast S64x512 n))

/-- Four rounds with the first rotation set. -/
def four (p : W × W) : W × W := rnd 6#32 26#32 (rnd 26#32 6#32 (rnd 15#32 17#32 (rnd 13#32 19#32 p)))
/-- Four rounds with the second rotation set. -/
def four' (p : W × W) : W × W := rnd 24#32 8#32 (rnd 16#32 16#32 (rnd 29#32 3#32 (rnd 17#32 15#32 p)))

/-- The generator's two output words at the second counter word `x1` (its key already added), the first counter word zero. -/
def words (x1 : W) : W × W :=
  inj 3780455752#32 928981903#32 5#32 (four
    (inj 3453687069#32 3780455752#32 4#32 (four'
      (inj 928981903#32 3453687069#32 3#32 (four
        (inj 3780455752#32 928981903#32 2#32 (four'
          (inj 3453687069#32 3780455752#32 1#32 (four
            (broadcast S64x512 928981903#32, x1))))))))))

/-- The random bits: the two words combined. -/
def bits (x1 : W) : W := xori (words x1).1 (words x1).2

/-- `log (0 - log (u))` of the uniform number `u` made of the bits `b`: what the kernel subtracts from the logits. -/
def noise (b : W) : FVec F S64x512 .f32 :=
  log (subf (broadcast S64x512 (Scalar.ofBits .f32 0x00000000#32))
    (log (addf (subf (bitcastToFloat .f32 (ori (shrui b (broadcast S64x512 9#32)) (broadcast S64x512 1065353216#32)))
      (broadcast S64x512 (Scalar.ofBits .f32 0x3F800000#32))) (broadcast S64x512 (Scalar.ofBits .f32 0x1E3CE508#32)))))

/-- The column numbers within a chunk. -/
def lanes : W := iota .tc S64x512 32 [1] iota_S64x512_d1_w32

/-- The perturbed logits of a chunk: its logits `x` less the noise at the counters `base + start`. -/
def phi (start : BitVec 32) (base : W) (x : FVec F S64x512 .f32) : FVec F S64x512 .f32 :=
  subf x (noise (bits (addi (shapeCast S64x512 base shapeCasts_S64x512_S64x512) (broadcast S64x512 start))))

/-- A chunk's values with the columns at or past 1000000 replaced by minus infinity. -/
def maskTail (start : BitVec 32) (p : FVec F S64x512 .f32) : FVec F S64x512 .f32 :=
  select (cmpi .slt (addi lanes (broadcast S64x512 start)) (broadcast S64x512 1000000#32)) p
    (broadcast S64x512 (Scalar.ofBits .f32 0xFF800000#32))

/-- The chunk's largest value in each row. -/
def top (p : FVec F S64x512 .f32) : FVec F S64x1 .f32 :=
  shapeCast S64x1 (multiReduction .maximumf [1] S64 p 0xFF800000#32 reduces_S64x512_S64 (.inl rfl) rfl) shapeCasts_S64_S64x1

/-- The first column of the chunk that holds it. -/
def spot (p : FVec F S64x512 .f32) : IVec S64x1 32 :=
  shapeCast S64x1 (multiReductionI .minsi [1] S64
    (select (cmpf .oeq p (broadcastTo S64x512 (top p) broadcasts_S64x1_S64x512)) lanes (broadcast S64x512 2147483647#32))
    2147483647#32 reduces_S64x512_S64 rfl) shapeCasts_S64_S64x1

/-- The running maximum after a chunk of values `p` (`v` and `v'` are two reads of the one it was). -/
def newV (p : FVec F S64x512 .f32) (v v' : FVec F S64x1 .f32) : FVec F S64x1 .f32 := select (cmpf .ogt (top p) v) (top p) v'
/-- The running index after a chunk of values `p` starting at column `start`. -/
def newI (start : BitVec 32) (p : FVec F S64x512 .f32) (v : FVec F S64x1 .f32) (i : IVec S64x1 32) : IVec S64x1 32 :=
  select (cmpf .ogt (top p) v) (addi (spot p) (broadcast S64x1 start)) i

/-- The chunk at columns `512 k` to `512 k + 511` of a block lies inside the block. -/
theorem inb (k : Nat) (h : k + 1 ≤ 32) : ∀ a, (![0, 512 * k] : Fin 2 → Nat) a + S64x512.size a ≤ S64x16384.size a := by
  intro a; fin_cases a
  · show 0 + 64 ≤ 64; omega
  · show 512 * k + 512 ≤ 16384; omega

/-- The chunk at columns `512 k` on of a block. -/
abbrev slab (k : Nat) (h : k + 1 ≤ 32) : Rect S64x16384 := Rect.unit (s := S64x16384) ![0, 512 * k] S64x512.size (inb k h)

/-- One chunk of the kernel, then `q`: read the counters and the chunk, and update the running maximum and index. `msk`
    leaves a full block's values as they are and masks the tail of the last. -/
def chunk (arg1 : Memref sig .tc .vmem S64x16384 .f32) (arg2 : Memref sig .tc .vmem S64x512 .i32)
    (arg4 : Memref sig .tc .vmem S64x1 .f32) (arg5 : Memref sig .tc .vmem S64x1 .i32)
    (msk : BitVec 32 → FVec F S64x512 .f32 → FVec F S64x512 .f32) (start : BitVec 32) (k : Nat) (h : k + 1 ≤ 32)
    (q : Prog (TpuEff nD τ sig (Elt F) Λ₀ .tc) PUnit) : Prog (TpuEff nD τ sig (Elt F) Λ₀ .tc) PUnit :=
  .op (.load arg2 (Rect.unit (s := S64x512) ![0, 0] S64x512.size inb_S64x512_S64x512_0_0).toLoadRect (View.loadsAt_vmem h_S64x512)) fun (base : Vec F S64x512 .i32) =>
  .op (.load arg1 (slab k h).toLoadRect (View.loadsAt_vmem h_S64x512)) fun (x : Vec F S64x512 .f32) =>
  .op (.load arg4 (Rect.unit (s := S64x1) ![0, 0] S64x1.size inb_S64x1_S64x1_0_0).toLoadRect (View.loadsAt_vmem h_S64x1)) fun (v : Vec F S64x1 .f32) =>
  .op (.load arg4 (Rect.unit (s := S64x1) ![0, 0] S64x1.size inb_S64x1_S64x1_0_0).toLoadRect (View.loadsAt_vmem h_S64x1)) fun (v' : Vec F S64x1 .f32) =>
  .op (.load arg4 (Rect.unit (s := S64x1) ![0, 0] S64x1.size inb_S64x1_S64x1_0_0).toLoadRect (View.loadsAt_vmem h_S64x1)) fun (_ : Vec F S64x1 .f32) =>
  .op (.store arg4 (Rect.unit (s := S64x1) ![0, 0] S64x1.size inb_S64x1_S64x1_0_0) (shapeCast S64x1 (newV (msk start (phi start base x)) v v') shapeCasts_S64x1_S64x1 : FVec F S64x1 .f32) Finset.univ (View.stores_vmem_bits_univ h_S64x1 rfl) (.inl rfl)) fun _ =>
  .op (.load arg5 (Rect.unit (s := S64x1) ![0, 0] S64x1.size inb_S64x1_S64x1_0_0).toLoadRect (View.loadsAt_vmem h_S64x1)) fun (i : Vec F S64x1 .i32) =>
  .op (.load arg5 (Rect.unit (s := S64x1) ![0, 0] S64x1.size inb_S64x1_S64x1_0_0).toLoadRect (View.loadsAt_vmem h_S64x1)) fun (_ : Vec F S64x1 .i32) =>
  .op (.store arg5 (Rect.unit (s := S64x1) ![0, 0] S64x1.size inb_S64x1_S64x1_0_0) (shapeCast S64x1 (newI start (msk start (phi start base x)) v i) shapeCasts_S64x1_S64x1 : IVec S64x1 32) Finset.univ (View.stores_vmem_bits_univ h_S64x1 rfl) (.inl rfl)) fun _ => q

/-- `n` chunks in order, from chunk `k` on, of the block that starts at column `col0`; then `q`. -/
def chunks (arg1 : Memref sig .tc .vmem S64x16384 .f32) (arg2 : Memref sig .tc .vmem S64x512 .i32)
    (arg4 : Memref sig .tc .vmem S64x1 .f32) (arg5 : Memref sig .tc .vmem S64x1 .i32)
    (msk : BitVec 32 → FVec F S64x512 .f32 → FVec F S64x512 .f32) (col0 : BitVec 32)
    (q : Prog (TpuEff nD τ sig (Elt F) Λ₀ .tc) PUnit) :
    (n k : Nat) → k + n ≤ 32 → Prog (TpuEff nD τ sig (Elt F) Λ₀ .tc) PUnit
  | 0, _, _ => q
  | n + 1, k, h => chunk arg1 arg2 arg4 arg5 msk (Scalar.addi col0 (BitVec.ofNat 32 (512 * k))) k (by omega)
      (chunks arg1 arg2 arg4 arg5 msk col0 q n (k + 1) (by omega))

/-- The body at the grid point `i`: reset the running maximum and index at the first point, take the 32 chunks of a full
    block before the last point and the two chunks of the tail at the last, and there write the index out. -/
def body (i : grid0.Coords) (arg1 : Memref sig .tc .vmem S64x16384 .f32) (arg2 : Memref sig .tc .vmem S64x512 .i32)
    (arg3 : Memref sig .tc .vmem S64x1 .i32) (arg4 : Memref sig .tc .vmem S64x1 .f32) (arg5 : Memref sig .tc .vmem S64x1 .i32) :
    Prog (TpuEff nD τ sig (Elt F) Λ₀ .tc) PUnit := do
  let arg0 : BitVec 32 := BitVec.ofNat 32 (i 0).val
  if k0_h1 : Scalar.cmpi .ne (Scalar.extui (Scalar.cmpi .eq arg0 0#32) : BitVec 32) 0#32 = 1#1 then do
    let _ : Vec F S64x1 .f32 ← Prog.lift (.load arg4 (Rect.unit (s := S64x1) ![0, 0] S64x1.size inb_S64x1_S64x1_0_0).toLoadRect (View.loadsAt_vmem h_S64x1))
    Prog.lift (.store arg4 (Rect.unit (s := S64x1) ![0, 0] S64x1.size inb_S64x1_S64x1_0_0) (shapeCast S64x1 (broadcast S64x1 (Scalar.ofBits .f32 0xFF800000#32)) shapeCasts_S64x1_S64x1 : FVec F S64x1 .f32) Finset.univ (View.stores_vmem_bits_univ h_S64x1 rfl) (.inl rfl))
    let _ : Vec F S64x1 .i32 ← Prog.lift (.load arg5 (Rect.unit (s := S64x1) ![0, 0] S64x1.size inb_S64x1_S64x1_0_0).toLoadRect (View.loadsAt_vmem h_S64x1))
    Prog.lift (.store arg5 (Rect.unit (s := S64x1) ![0, 0] S64x1.size inb_S64x1_S64x1_0_0) (shapeCast S64x1 (broadcast S64x1 0#32) shapeCasts_S64x1_S64x1 : IVec S64x1 32) Finset.univ (View.stores_vmem_bits_univ h_S64x1 rfl) (.inl rfl))
    pure ⟨⟩
  else do
    pure ⟨⟩
  if k0_h2 : Scalar.cmpi .ne (Scalar.extui (Scalar.cmpi .slt arg0 61#32) : BitVec 32) 0#32 = 1#1 then do
    chunks arg1 arg2 arg4 arg5 (fun _ p => p) (Scalar.muli arg0 16384#32) (.ret ⟨⟩) 32 0 (by omega)
  else do
    pure ⟨⟩
  if k0_h3 : Scalar.cmpi .ne (Scalar.extui (Scalar.cmpi .eq arg0 61#32) : BitVec 32) 0#32 = 1#1 then do
    chunks arg1 arg2 arg4 arg5 maskTail (Scalar.muli arg0 16384#32) (.ret ⟨⟩) 2 0 (by omega)
  else do
    pure ⟨⟩
  if k0_h4 : k0_cond4 i = 1#1 then do
    let v14 : Vec F S64x1 .i32 ← Prog.lift (.load arg5 (Rect.unit (s := S64x1) ![0, 0] S64x1.size inb_S64x1_S64x1_0_0).toLoadRect (View.loadsAt_vmem h_S64x1))
    let _ : Vec F S64x1 .i32 ← Prog.lift (.load arg3 (Rect.unit (s := S64x1) ![0, 0] S64x1.size inb_S64x1_S64x1_0_0).toLoadRect (View.loadsAt_vmem h_S64x1))
    Prog.lift (.store arg3 (Rect.unit (s := S64x1) ![0, 0] S64x1.size inb_S64x1_S64x1_0_0) v14 Finset.univ (View.stores_vmem_bits_univ h_S64x1 rfl) (.inl rfl))
    pure ⟨⟩
  else do
    pure ⟨⟩
  pure ⟨⟩

section
attribute [local irreducible] addi xori shli shrui ori broadcast subf addf log select cmpf cmpi multiReduction multiReductionI
  shapeCast bitcastToFloat broadcastTo iota Scalar.addi Scalar.ofBits Scalar.muli Scalar.cmpi Scalar.extui

set_option maxHeartbeats 4000000 in
/-- The printed body is `body`: the printed operations are the chunks' operations in the same order, on the same operands. -/
theorem body_eq (i : grid0.Coords) (arg1 : Memref sig .tc .vmem S64x16384 .f32) (harg1 : arg1.IsWhole) (arg2 : Memref sig .tc .vmem S64x512 .i32) (harg2 : arg2.IsWhole) (arg3 : Memref sig .tc .vmem S64x1 .i32) (harg3 : arg3.IsWhole) (arg4 : Memref sig .tc .vmem S64x1 .f32) (harg4 : arg4.IsWhole) (arg5 : Memref sig .tc .vmem S64x1 .i32) (harg5 : arg5.IsWhole) :
    cc0_body (F := F) i arg1 harg1 arg2 harg2 arg3 harg3 arg4 harg4 arg5 harg5 = body i arg1 arg2 arg3 arg4 arg5 := (rfl)
end

end Cert.KernelIdeal.Own

end
-- ==== Proof.Region.lean ====
/-
  The kernel's body run at a grid point of `KernelIdeal`: each chunk updates the running maximum and index held in the
  scratch, so a point carries them through its chunks (`runChunks`), and the grid carries them from point to point.
-/
module

public import proofs.«01_k».proof.Proof.Chunk
public import proofs.«01_k».proof.Proof.Gen.KernelIdeal.Frame
public import Idealize.ShloMosaic.Lib.Pipeline.KitQuiescent
public import Idealize.ShloMosaic.Lib.Pipeline.Value
public import Idealize.ShloMosaic.Lib.Tactic

@[expose] public section

set_option maxRecDepth 65536

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The running maximum and index of the 64 rows. -/
abbrev St (F : FTy → Type) := FVec F S64x1 .f32 × IVec S64x1 32

/-- The kernel's variants: none. -/
abbrev 𝒱₀ : Variants := Variants.none

/-- Chunk `k` of a block `X`. -/
def cut (X : S64x16384.Idx → Elt F .f32) (k : Nat) (h : k + 1 ≤ 32) : FVec F S64x512 .f32 :=
  fun j => X ((slab k h).toLoadRect.idx j)

/-- The running maximum and index after a chunk with values `p` that starts at column `start`. -/
def step (start : BitVec 32) (p : FVec F S64x512 .f32) (s : St F) : St F := (newV p s.1 s.1, newI start p s.1 s.2)

/-- The running maximum and index after `n` chunks, from chunk `k` on, of the block `X` that starts at column `col0`. -/
def runChunks (msk : BitVec 32 → FVec F S64x512 .f32 → FVec F S64x512 .f32) (col0 : BitVec 32)
    (X : S64x16384.Idx → Elt F .f32) (B : W) : (n k : Nat) → k + n ≤ 32 → St F → St F
  | 0, _, _, s => s
  | n + 1, k, h, s => runChunks msk col0 X B n (k + 1) (by omega)
      (step (Scalar.addi col0 (BitVec.ofNat 32 (512 * k)))
        (msk (Scalar.addi col0 (BitVec.ofNat 32 (512 * k))) (phi (Scalar.addi col0 (BitVec.ofNat 32 (512 * k))) B (cut X k (by omega)))) s)

/-- The scratch's two buffers as memrefs. -/
abbrev mV : Memref sig .tc .vmem S64x1 .f32 := Memref.whole cc0_scratch0
/-- The scratch buffer that holds the running index. -/
abbrev mI : Memref sig .tc .vmem S64x1 .i32 := Memref.whole cc0_scratch1

/-- The scratch at a running maximum and index. -/
def held (c : Dev nD) (s : St F) : sProp 𝕄 :=
  iprop((((c : Thread nD τ).loc cc0_scratch0) ↦{fullShare} s.1) ∗ (((c : Thread nD τ).loc cc0_scratch1) ↦{fullShare} s.2))

/-- The written start of a whole buffer is the zero start. -/
theorem hz : (![0, 0] : Fin 2 → Nat) = fun _ => 0 := funext fun a => by fin_cases a <;> rfl

/-- Reading the whole value buffer gives its contents. -/
theorem readV : (mV : Memref sig .tc .vmem S64x1 .f32).view.readAt (Elt F) (Rect.unit (s := S64x1) ![0, 0] S64x1.size
    inb_S64x1_S64x1_0_0).toLoadRect = id := funext (Memref.readAt_unit_zero (Elt F) cc0_scratch0 hz _)
/-- Reading the whole index buffer gives its contents. -/
theorem readI : (mI : Memref sig .tc .vmem S64x1 .i32).view.readAt (Elt F) (Rect.unit (s := S64x1) ![0, 0] S64x1.size
    inb_S64x1_S64x1_0_0).toLoadRect = id := funext (Memref.readAt_unit_zero (Elt F) cc0_scratch1 hz _)
/-- Writing the whole value buffer replaces its contents. -/
theorem writeV (f w) : ((mV.access (Rect.unit (s := S64x1) ![0, 0] S64x1.size inb_S64x1_S64x1_0_0)) :
    View sig .tc _ _ _).write (Elt F) f w Finset.univ = w := Memref.write_access_unit_zero_univ (Elt F) cc0_scratch0 hz _ f w
/-- Writing the whole index buffer replaces its contents. -/
theorem writeI (f w) : ((mI.access (Rect.unit (s := S64x1) ![0, 0] S64x1.size inb_S64x1_S64x1_0_0)) :
    View sig .tc _ _ _).write (Elt F) f w Finset.univ = w := Memref.write_access_unit_zero_univ (Elt F) cc0_scratch1 hz _ f w

/-- A whole load of a memref reads what its view reads. -/
theorem readB (a : Memref sig .tc .vmem S64x512 .i32) (f : a.view.ty.Contents (Elt F)) :
    a.view.readAt (Elt F) (Rect.unit (s := S64x512) ![0, 0] S64x512.size inb_S64x512_S64x512_0_0).toLoadRect f
      = a.view.read (Elt F) f := by
  have : ∀ x, (Rect.unit (s := S64x512) ![0, 0] S64x512.size inb_S64x512_S64x512_0_0).toLoadRect.idx x = x := by
    intro x; funext a; fin_cases a <;> exact Fin.ext (by simp [Rect.unit, LoadRect.idx, Rect.toLoadRect])
  funext x; rw [View.readAt_apply, this]

/-- One chunk, then `q`: the block and the counters stay, the running maximum and index move by `step`. -/
theorem wp_chunk (c : Dev nD) (E : Set ℕ) (arg1 : Memref sig .tc .vmem S64x16384 .f32) (arg2 : Memref sig .tc .vmem S64x512 .i32)
    (msk : BitVec 32 → FVec F S64x512 .f32 → FVec F S64x512 .f32) (start : BitVec 32) (k : Nat) (h : k + 1 ≤ 32)
    (q : Prog (TpuEff nD τ sig (Elt F) Λ₀ .tc) PUnit)
    (X : S64x16384.Idx → Elt F .f32) (B : W) (s : St F) (K : PUnit → sProp 𝕄) :
    iprop((owns (c : Thread nD τ) arg1 fullShare X ∗ owns (c : Thread nD τ) arg2 fullShare B ∗ held c s)
          ∗ (iprop(owns (c : Thread nD τ) arg1 fullShare X ∗ owns (c : Thread nD τ) arg2 fullShare B
                  ∗ held c (step start (msk start (phi start B (cut X k h))) s))
              -∗ wp frame (wpE (defs₀ (F := F)) 𝒱₀ c none) E q K))
      ⊢ wp frame (wpE (defs₀ (F := F)) 𝒱₀ c none) E (chunk arg1 arg2 mV mI msk start k h q) K := by
  unfold chunk held owns
  iintro ⟨⟨⟨%f1, %hf1, H1⟩, ⟨%f2, %hf2, H2⟩, HV, HI⟩, Hk⟩
  sl_step
  sl_step
  sl_step
  sl_step
  sl_step
  sl_step
  sl_step
  sl_step
  sl_step
  rw [readV, readI, writeV, writeI, readB, shapeCast_self, shapeCast_self, hf2]
  iapply Hk
  isplitl [H1]
  · iexists f1; isplitr; · ipureintro; exact hf1
    iexact H1
  isplitl [H2]
  · iexists f2; isplitr; · ipureintro; exact hf2
    iexact H2
  have hc : arg1.view.readAt (Elt F) (slab k h).toLoadRect f1 = cut X k h := by subst hf1; rfl
  rw [hc]
  isplitl [HV]
  · iexact HV
  · iexact HI

/-- `n` chunks, then `q`. -/
theorem wp_chunks (c : Dev nD) (E : Set ℕ) (arg1 : Memref sig .tc .vmem S64x16384 .f32) (arg2 : Memref sig .tc .vmem S64x512 .i32)
    (msk : BitVec 32 → FVec F S64x512 .f32 → FVec F S64x512 .f32) (col0 : BitVec 32)
    (q : Prog (TpuEff nD τ sig (Elt F) Λ₀ .tc) PUnit) (X : S64x16384.Idx → Elt F .f32) (B : W) (K : PUnit → sProp 𝕄) :
    (n k : Nat) → (h : k + n ≤ 32) → (s : St F) →
    iprop((owns (c : Thread nD τ) arg1 fullShare X ∗ owns (c : Thread nD τ) arg2 fullShare B ∗ held c s)
          ∗ (iprop(owns (c : Thread nD τ) arg1 fullShare X ∗ owns (c : Thread nD τ) arg2 fullShare B
                  ∗ held c (runChunks msk col0 X B n k h s))
              -∗ wp frame (wpE (defs₀ (F := F)) 𝒱₀ c none) E q K))
      ⊢ wp frame (wpE (defs₀ (F := F)) 𝒱₀ c none) E (chunks arg1 arg2 mV mI msk col0 q n k h) K
  | 0, _, _, s => by
    unfold chunks runChunks
    iintro ⟨H, Hk⟩
    iapply Hk
    iexact H
  | n + 1, k, h, s => by
    unfold chunks runChunks
    iintro ⟨H, Hk⟩
    iapply (wp_chunk c E arg1 arg2 msk _ k _ _ X B s K)
    isplitl [H]; · iexact H
    iintro H
    iapply (wp_chunks c E arg1 arg2 msk col0 q X B K n (k + 1) _ _)
    isplitl [H]; · iexact H
    iexact Hk

/-- What follows the chunks may be taken for their continuation. -/
theorem chunks_bind (arg1 : Memref sig .tc .vmem S64x16384 .f32) (arg2 : Memref sig .tc .vmem S64x512 .i32)
    (arg4 : Memref sig .tc .vmem S64x1 .f32) (arg5 : Memref sig .tc .vmem S64x1 .i32)
    (msk : BitVec 32 → FVec F S64x512 .f32 → FVec F S64x512 .f32) (col0 : BitVec 32)
    (q : Prog (TpuEff nD τ sig (Elt F) Λ₀ .tc) PUnit) (f : PUnit → Prog (TpuEff nD τ sig (Elt F) Λ₀ .tc) PUnit) :
    (n k : Nat) → (h : k + n ≤ 32) →
    (chunks arg1 arg2 arg4 arg5 msk col0 q n k h) >>= f = chunks arg1 arg2 arg4 arg5 msk col0 (q >>= f) n k h
  | 0, _, _ => rfl
  | n + 1, k, h => by
    unfold chunks chunk
    simp only [Prog.bind_op, chunks_bind arg1 arg2 arg4 arg5 msk col0 q f n (k + 1)]
    rfl

/-- The running maximum and index nothing has been taken into yet: minus infinity and column 0. -/
def init : St F := (broadcast S64x1 (Scalar.ofBits .f32 0xFF800000#32), broadcast S64x1 0#32)

/-- The running maximum and index after the grid point `n`, from those before it. -/
def point (n : Nat) (X : S64x16384.Idx → Elt F .f32) (B : W) (s : St F) : St F :=
  if n = 61 then runChunks maskTail (Scalar.muli (BitVec.ofNat 32 n) 16384#32) X B 2 0 (by omega) s
  else runChunks (fun _ p => p) (Scalar.muli (BitVec.ofNat 32 n) 16384#32) X B 32 0 (by omega) s

/-- The body's conditions, read off the grid point. -/
theorem cond_first : ∀ n : Fin 62, (Scalar.cmpi .ne (Scalar.extui (Scalar.cmpi .eq (BitVec.ofNat 32 n.val) 0#32) : BitVec 32) 0#32 = 1#1) ↔ n.val = 0 := by
  decide +kernel
/-- The branch for whole blocks runs at the points before the last. -/
theorem cond_full : ∀ n : Fin 62, (Scalar.cmpi .ne (Scalar.extui (Scalar.cmpi .slt (BitVec.ofNat 32 n.val) 61#32) : BitVec 32) 0#32 = 1#1) ↔ n.val ≠ 61 := by
  decide +kernel
/-- The branch for the partial block runs at the last point. -/
theorem cond_tail : ∀ n : Fin 62, (Scalar.cmpi .ne (Scalar.extui (Scalar.cmpi .eq (BitVec.ofNat 32 n.val) 61#32) : BitVec 32) 0#32 = 1#1) ↔ n.val = 61 := by
  decide +kernel
/-- The result is written at the last point only. -/
theorem cond_last (i : grid0.Coords) : k0_cond4 i = 1#1 ↔ (i 0).val = 61 := cond_tail (i 0)

/-- The buffer the result's block is staged in. -/
abbrev mO : Memref sig .tc .vmem S64x1 .i32 := Memref.whole cc0_stg2_0
/-- Writing the whole result window replaces its contents. -/
theorem writeO (f w) : ((mO.access (Rect.unit (s := S64x1) ![0, 0] S64x1.size inb_S64x1_S64x1_0_0)) :
    View sig .tc _ _ _).write (Elt F) f w Finset.univ = w := Memref.write_access_unit_zero_univ (Elt F) cc0_stg2_0 hz _ f w

/-- The body at a grid point: the block and the counters stay, the scratch moves by `point` (from `init` at the first
    point, whatever it held), and the result's buffer takes the index at the last point and stays at the others. -/
theorem wp_body (c : Dev nD) (E : Set ℕ) (i : grid0.Coords) (arg1 : Memref sig .tc .vmem S64x16384 .f32)
    (arg2 : Memref sig .tc .vmem S64x512 .i32) (X : S64x16384.Idx → Elt F .f32) (B : W) (Z : IVec S64x1 32) (s : St F)
    (K : PUnit → sProp 𝕄) :
    iprop((owns (c : Thread nD τ) arg1 fullShare X ∗ owns (c : Thread nD τ) arg2 fullShare B
            ∗ owns (c : Thread nD τ) mO fullShare Z ∗ held c s)
          ∗ (iprop(owns (c : Thread nD τ) arg1 fullShare X ∗ owns (c : Thread nD τ) arg2 fullShare B
                  ∗ owns (c : Thread nD τ) mO fullShare
                      (if (i 0).val = 61 then (point (i 0).val X B (if (i 0).val = 0 then init else s)).2 else Z)
                  ∗ held c (point (i 0).val X B (if (i 0).val = 0 then init else s)))
              -∗ K ⟨⟩))
      ⊢ wp frame (wpE (defs₀ (F := F)) 𝒱₀ c none) E (body i arg1 arg2 mO mV mI) K := by
  unfold body
  simp only [cond_first (i 0), cond_full (i 0), cond_tail (i 0), cond_last i]
  by_cases h61 : (i 0).val = 61
  · have h0 : ¬ (i 0).val = 0 := by omega
    simp only [dif_pos h61, dif_neg h0, dif_neg (not_not.mpr h61), if_pos h61, if_neg h0, point]
    simp only [Prog.lift, pure_bind, chunks_bind, Prog.bind_op, Prog.bind_ret]
    simp only [owns_whole_eq]
    iintro ⟨⟨H1, H2, ⟨%g, %hg, HO⟩, HS⟩, Hk⟩
    iapply (wp_chunks c E arg1 arg2 maskTail _ _ X B K 2 0 _ s)
    isplitl [H1 H2 HS]
    · isplitl [H1]; · iexact H1
      isplitl [H2]; · iexact H2
      iexact HS
    unfold held
    iintro ⟨H1, H2, HV, HI⟩
    sl_steps
    rw [readI, writeO]
    iapply Hk
    isplitl [H1]; · iexact H1
    isplitl [H2]; · iexact H2
    isplitl [HO]
    · iexists _; isplitr; · ipureintro; rfl
      iexact HO
    isplitl [HV]; · iexact HV
    iexact HI
  · by_cases h0 : (i 0).val = 0
    · simp only [dif_neg h61, dif_pos h0, dif_pos h61, if_neg h61, if_pos h0, point]
      simp only [Prog.lift, pure_bind, chunks_bind, Prog.bind_op, Prog.bind_ret]
      unfold held
      iintro ⟨⟨H1, H2, HO, HV, HI⟩, Hk⟩
      sl_step
      sl_step
      sl_step
      sl_step
      rw [writeV, writeI, shapeCast_self, shapeCast_self]
      iapply (wp_chunks c E arg1 arg2 (fun _ p => p) _ _ X B K 32 0 _ init)
      unfold held
      isplitl [H1 H2 HV HI]
      · isplitl [H1]; · iexact H1
        isplitl [H2]; · iexact H2
        isplitl [HV]; · iexact HV
        iexact HI
      iintro ⟨H1, H2, HV, HI⟩
      sl_steps
      iapply Hk
      isplitl [H1]; · iexact H1
      isplitl [H2]; · iexact H2
      isplitl [HO]; · iexact HO
      isplitl [HV]; · iexact HV
      iexact HI
    · simp only [dif_neg h61, dif_neg h0, dif_pos h61, if_neg h61, if_neg h0, point]
      simp only [Prog.lift, pure_bind, chunks_bind, Prog.bind_op, Prog.bind_ret]
      iintro ⟨⟨H1, H2, HO, HS⟩, Hk⟩
      iapply (wp_chunks c E arg1 arg2 (fun _ p => p) _ _ X B K 32 0 _ s)
      isplitl [H1 H2 HS]
      · isplitl [H1]; · iexact H1
        isplitl [H2]; · iexact H2
        iexact HS
      iintro ⟨H1, H2, HS⟩
      sl_steps
      iapply Hk
      isplitl [H1]; · iexact H1
      isplitl [H2]; · iexact H2
      isplitl [HO]; · iexact HO
      iexact HS

/-! ## What lies past the array's end does not matter -/

/-- Past column 1000000 the masked values are minus infinity whatever the values were. -/
theorem maskTail_congr (start : BitVec 32) (B : W) (x x' : FVec F S64x512 .f32)
    (h : ∀ j, (BitVec.ofNat 32 (j 1).val + start).slt 1000000#32 = true → x j = x' j) :
    maskTail start (phi start B x) = maskTail start (phi start B x') := by
  funext j
  have hl : lanes j = BitVec.ofNat 32 (j 1).val := by simp [lanes, iota]
  have hcond : cmpi .slt (addi lanes (broadcast S64x512 start)) (broadcast S64x512 1000000#32) j
      = BitVec.ofBool ((BitVec.ofNat 32 (j 1).val + start).slt 1000000#32) := by rw [← hl]; rfl
  show Scalar.select (cmpi .slt (addi lanes (broadcast S64x512 start)) (broadcast S64x512 1000000#32) j) _ _
    = Scalar.select (cmpi .slt (addi lanes (broadcast S64x512 start)) (broadcast S64x512 1000000#32) j) _ _
  rw [hcond]
  cases hc : (BitVec.ofNat 32 (j 1).val + start).slt 1000000#32
  · rfl
  · have e : phi start B x j = phi start B x' j := by unfold phi subf; rw [h j hc]
    rw [e]

/-- Where column `512 k + j` of the last block lies, seen from its chunk `k`. -/
theorem point_congr (n : Nat) (hn : n < 62) (X X' : S64x16384.Idx → Elt F .f32) (B : W) (s : St F)
    (h : ∀ j, 16384 * n + (j 1).val < 1000000 → X j = X' j) : point n X B s = point n X' B s := by
  by_cases h61 : n = 61
  · subst h61
    have hk : ∀ k (hk : k + 1 ≤ 32) j, (BitVec.ofNat 32 (j 1).val + Scalar.addi (Scalar.muli (BitVec.ofNat 32 61) 16384#32) (BitVec.ofNat 32 (512 * k))).slt 1000000#32 = true
        → cut X k hk j = cut X' k hk j := by
      intro k hk j hj
      apply h
      have hj1 : (j 1).val < 512 := (j 1).isLt
      have e1 : (((slab k hk).toLoadRect.idx j) 1).val = 512 * k + (j 1).val := by
        simp [Rect.unit, LoadRect.idx, Rect.toLoadRect]
      rw [e1]
      have e2 : BitVec.ofNat 32 (j 1).val + Scalar.addi (Scalar.muli (BitVec.ofNat 32 61) 16384#32) (BitVec.ofNat 32 (512 * k))
          = BitVec.ofNat 32 (999424 + 512 * k + (j 1).val) := by
        apply BitVec.eq_of_toNat_eq
        simp [Scalar.addi, Scalar.muli, IntOp.addi, IntOp.muli]
        omega
      rw [e2, BitVec.slt_iff_toInt_lt, BitVec.toInt_eq_toNat_bmod, BitVec.toNat_ofNat, Nat.mod_eq_of_lt (by omega)] at hj
      have : ((1000000#32).toInt) = 1000000 := by decide
      rw [this, Int.bmod_eq_of_le (by omega) (by omega)] at hj
      omega
    simp only [point, if_true, runChunks]
    rw [maskTail_congr _ B (cut X 0 (by omega)) (cut X' 0 (by omega)) (hk 0 (by omega)),
      maskTail_congr _ B (cut X (0 + 1) (by omega)) (cut X' (0 + 1) (by omega)) (hk 1 (by omega))]
  · have : X = X' := funext fun j => h j (by have : (j 1).val < 16384 := (j 1).isLt; omega)
    rw [this]

/-! ## The proof data -/

variable (m : (ℓ : Loc nD τ sig) → Buf (Elt F) ℓ) (ρ : Dev nD → PrngReg)

/-- The point's block of the logits, zero past the array's end. -/
def blockX (c : Dev nD) (t : Fin cfg0.N) : S64x16384.Idx → Elt F .f32 :=
  win0_0.fill (grid0.coords t) (fun _ => Scalar.ofBits .f32 0#32) (iblk m c 0 t)

/-- The counters' block: the same at every point. -/
def counters (c : Dev nD) : W := iblk m c 1 ⟨0, by decide⟩

/-- The running maximum and index before the grid point `n`. -/
def acc (c : Dev nD) : Nat → St F
  | 0 => init
  | n + 1 => if h : n < 62 then point n (blockX m c ⟨n, h⟩) (counters m c) (acc c n) else acc c n

/-- The body's invariant: the scratch holds `acc` once the first point has run. -/
def Phi (c : Dev nD) (n : Nat) : sProp 𝕄 := iprop((∃ s : St F, ⌜n ≠ 0 → s = acc m c n⌝ ∗ held c s) ∗ ∃ r, prngReg c r)

/-- The pipeline's proof data: the inputs' buffers keep their blocks, the result's takes the last point's index. -/
def dats : (p : Fin 1) → (c : Dev nD) → Dat τ (Elt F) Unit ℕ (UR sig nD τ) ℕ (cfgs p) c := fun _ c =>
  { A := fun w => V m c (Pipeline.arrRef spec0 w)
    after := fun
      | 0 => fun t => blockX m c t
      | 1 => fun t => iblk m c 1 t
      | 2 => fun t => (acc m c (t.val + 1)).2
      | ⟨_ + 3, h⟩ => absurd h (Nat.not_lt.2 (Nat.le_add_left _ _))
    Φ := fun t => Phi m c t.val
    q := fun _ => fullShare
    owed := fun _ => 0 }

/-- The logits' buffer just fetched: the block inside the array, anything past its end. -/
theorem before_0 (c : Dev nD) (t : Fin cfg0.N) (d) :
    (dats m 0 c).before (0 : Fin 3) t d = win0_0.fill (grid0.coords t) d (iblk m c 0 t) := by
  unfold Dat.before; rw [if_pos (fetch0_0 t)]; rfl
/-- The counters' buffer: the block, at every point. -/
theorem before_1 (c : Dev nD) (t : Fin cfg0.N) (d) : (dats m 0 c).before (1 : Fin 3) t d = iblk m c 1 t :=
  before0_1_of m (dats m 0 c) rfl (fun _ => rfl) t d

/-- A point's coordinate is its number. -/
theorem coords_val : ∀ t : Fin 62, (grid0.coords t 0).val = t.val := by decide +kernel

/-- The counters' block does not move. -/
theorem iblk_1 (c : Dev nD) (t : Fin cfg0.N) : iblk m c 1 t = counters m c := rfl

/-- How much of the block's columns lies inside the array. -/
theorem inside : ∀ t : Fin 62, 64 ≤ win0_0.xsize (grid0.coords t) 0
    ∧ (min 16384 (1000000 - 16384 * t.val) ≤ win0_0.xsize (grid0.coords t) 1) := by decide +kernel

/-- The block read at a column inside the array does not depend on what fills the rest. -/
theorem fill_inside (t : Fin 62) (d d' : S64x16384.Idx → Elt F .f32) (g) (j : S64x16384.Idx)
    (h : 16384 * t.val + (j 1).val < 1000000) :
    win0_0.fill (grid0.coords t) d g j = win0_0.fill (grid0.coords t) d' g j := by
  have hm : win0_0.moved (grid0.coords t) j = true := (win0_0.moved_iff _ j).mpr fun a => by
    have h0 : (j 0).val < 64 := (j 0).isLt
    have h1 : (j 1).val < 16384 := (j 1).isLt
    obtain ⟨i0, i1⟩ := inside t
    match a with
    | ⟨0, _⟩ => exact lt_of_lt_of_le h0 i0
    | ⟨1, _⟩ => exact lt_of_lt_of_le (by omega : (j 1).val < min 16384 (1000000 - 16384 * t.val)) i1
  unfold Window.fill; rw [dif_pos hm, dif_pos hm]

/-- The running maximum and index after one more point. -/
theorem acc_succ (c : Dev nD) (t : Fin 62) : acc m c (t.val + 1) = point t.val (blockX m c t) (counters m c) (acc m c t.val) := by
  conv_lhs => unfold acc
  exact dif_pos t.isLt

/-- The result's window is written back at the last point and idle at the others. -/
theorem flush_2 (t : Fin 62) : (cfg0.win 2).flush t = true ↔ t.val = 61 := by
  rw [flush0_2 t]
  show t.val % 62 = 61 ↔ _
  have := t.isLt; omega
/-- The result window rests at every point but the last. -/
theorem idle_2 (t : Fin 62) : cfg0.idle 2 (cfg0.grid.coords t) = true ↔ t.val ≠ 61 := by
  show (!(k0_cond4 (grid0.coords t) == 1#1)) = true ↔ _
  rw [Bool.not_eq_true', beq_eq_false_iff_ne, Ne, cond_last, coords_val]

/-- The body's obligation at every grid point. -/
theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.succ = Phi m c (t.val + 1) from rfl,
    show (dats m 0 c).Φ t.castSucc = Phi m c t.val from rfl]
  show _ ⊢ wp frame _ _ (cc0_body (grid0.coords t) (win0_0.stage (cfg0.slots t 0)) _ (win0_1.stage (cfg0.slots t 1)) _ (win0_2.stage (cfg0.slots t 2)) _ mV _ mI _) _
  rw [body_eq]
  have hs2 : win0_2.stage (cfg0.slots t 2) = mO := by
    have : cfg0.slots t 2 = (0 : Fin 1) := Subsingleton.elim (α := Fin 1) _ _
    rw [this]
  have hidle : idle0 2 (grid0.coords t) = !decide (t.val = 61) := by
    by_cases h : t.val = 61
    · rw [h, Bool.eq_iff_iff]; exact (idle_2 t).trans (by simp [h])
    · rw [Bool.eq_iff_iff]; exact (idle_2 t).trans (by simp [h])
  have hflush : (win0 2).flush t = decide (t.val = 61) := by
    rw [Bool.eq_iff_iff]; exact (flush_2 t).trans (by simp)
  rw [hidle, hflush, show win0_2.stage (cfg0.slots t 2) = mO from hs2]
  unfold Phi
  iintro ⟨⟨⟨%s, %hs, HS⟩, HP⟩, Ho, ⟨%d0, H0⟩, ⟨%d1, H1⟩, ⟨%d2, H2⟩⟩
  rw [before_0 m c t d0, before_1 m c t d1]
  have hacc : (if t.val = 0 then (init : St F) else s) = acc m c t.val := by
    by_cases h : t.val = 0
    · rw [if_pos h, h]; rfl
    · rw [if_neg h, hs h]
  have hpt : point t.val (win0_0.fill (grid0.coords t) d0 (iblk m c 0 t)) (iblk m c 1 t) (acc m c t.val) = acc m c (t.val + 1) := by
    rw [acc_succ m c t, iblk_1]
    exact point_congr t.val t.isLt _ _ _ _ fun j hj => fill_inside t _ _ _ j hj
  iapply (wp_body (F := F) c Set.univ (grid0.coords t) (stage0_0 (cfg0.slots t 0)) (stage0_1 (cfg0.slots t 1))
    (win0_0.fill (grid0.coords t) d0 (iblk m c 0 t)) (iblk m c 1 t) ((dats m 0 c).before 2 t d2) s _)
  rw [coords_val t, hacc, hpt, show stage0_2 ((cfgs 0).slots t 2) = mO from hs2]
  isplitl [H0 H1 H2 HS]
  · isplitl [H0]; · iexact H0
    isplitl [H1]; · iexact H1
    isplitl [H2]; · iexact H2
    iexact HS
  iintro ⟨H0, H1, H2, HS⟩
  isplitl [HS HP]
  · isplitl [HS]
    · iexists (acc m c (t.val + 1)); isplitr; · ipureintro; exact fun _ => rfl
      iexact HS
    iexact HP
  isplitl [Ho]; · iexact Ho
  isplitl [H0]
  · iexists d0
    have hx : win0_0.cut (grid0.coords t) (blockX m c t) = iblk m c 0 t := win0_0.cut_fill _ _ _
    change _ ⊢ owns (c : Thread nD τ) (stage0_0 (cfg0.slots t 0)) fullShare (win0_0.fill (grid0.coords t) d0 (win0_0.cut (grid0.coords t) (blockX m c t)))
    rw [hx]; try iexact H0
  isplitl [H1]; · iexact H1
  by_cases h61 : t.val = 61
  · rw [if_pos h61]
    simp only [h61, decide_true, Bool.not_true]
    change _ ⊢ owns (Val := Elt F) (c : Thread nD τ) mO fullShare (acc m c (t.val + 1)).2
    rw [h61]; try iexact H2
  · rw [if_neg h61]
    simp only [h61, decide_false, Bool.not_false]
    iexists d2
    iexact H2

/-! ## The run -/

/-- At the compiled mesh, for any float values, from any memory with zero counters: every weakly fair execution of @main
    ends, with every array at its computed contents and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps) (hmain := hmain m 𝒱₀)
    (hA := fun _ _ => rfl)
    (hin := fun c => by
      unfold Pipeline.ΦA
      rw [show (cfgs 0).spec = spec0 from rfl, scopedRest0_eq]
      show _ ⊢ Phi m c 0
      unfold Phi held
      iintro ⟨⟨⟨%f, HV⟩, ⟨%g, HI⟩⟩, HP⟩
      isplitl [HV HI]
      · iexists (f, g); isplitr; · ipureintro; exact fun h => absurd rfl h
        isplitl [HV]; · iexact HV
        iexact HI
      iexact HP)
    (hout := fun c => by
      unfold Pipeline.ΦA
      rw [show (cfgs 0).spec = spec0 from rfl, scopedRest0_eq]
      show Phi m c 62 ⊢ _
      unfold Phi held
      iintro ⟨⟨%s, %hs, HV, HI⟩, HP⟩
      isplitl [HV HI]
      · isplitl [HV]; · iexists s.1; iexact HV
        iexists s.2; iexact HI
      iexact HP)
    (Q' := fun r => Pipeline.FramePost cfgs (dats m) 0 (Pipeline.afterTail₀ cfgs (dats m) 0 (V0 m) [hostOps1]) r ∧ r.2.sem = fun _ => 0)
    (hQ' := fun _ h => h)

/-- The kernel runs, leaves its argument as it was, and ends with every counter at zero. -/
theorem frame_run : θ_run defs (onTc (τ := τ) (main (F := F))) (s₀ m ρ)
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => ((h.1 c).1 0).trans (((dats m 0 c).arrAt_in 0 rfl _).trans (V_main_arg0 m c)), h.2⟩)
    (run_main m ρ)

end Cert.KernelIdeal.Own

end
-- ==== Proof.KOut.lean ====
/-
  What the kernel of `KernelIdeal` leaves: its result holds the running index after the last grid point, its argument is
  unchanged and every counter is at zero.
-/
module

public import proofs.«01_k».proof.Proof.Region
public import Idealize.ShloMosaic.Lib.StableHlo.RunRead

@[expose] public section

set_option maxRecDepth 65536

noncomputable section

namespace Cert.KernelIdeal.Own

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The counters of row `r` at lane `l`: row start, lane, and the generator's first key word. -/
theorem counters_apply (c : Dev nD) (j : S64x512.Idx) :
    counters m c j = (BitVec.ofNat 32 (j 0).val * 1000000#32 + BitVec.ofNat 32 (j 1).val) + 3453687069#32 := by
  have h : counters m c = V m c main_v10 := by
    funext j
    show V m c main_v10 _ = V m c main_v10 j
    congr 1
    funext a; fin_cases a
    · exact Fin.ext (by show 0 * 64 + 1 * (j 0).val = (j 0).val; omega)
    · exact Fin.ext (by show 0 * 512 + 1 * (j 1).val = (j 1).val; omega)
  rw [h]
  unfold V V0
  simp only [List.flatten_cons, List.flatten_nil, List.append_nil]
  after_reads_simp
  simp only [addi, muli, broadcastInDim, constantI, iotaInDim, IntOp.addi, IntOp.muli]
  rfl

/-- The result's window is the whole array at every point. -/
theorem emb_2 (t : Fin cfg0.N) (i) : ((cfg0.win 2).blk t).view.emb i = i := by
  funext a; fin_cases a
  · exact Fin.ext (by show 0 * 64 + 1 * (i 0).val = (i 0).val; omega)
  · exact Fin.ext (by show 0 * 1 + 1 * (i 1).val = (i 1).val; omega)

/-- A write-back of the result leaves what the body left in its buffer. -/
theorem arr_succ (c : Dev nD) (t : Fin cfg0.N) (h : (cfg0.win 2).flush t = true) :
    (dats m 0 c).arrAt 2 (t.val + 1) = (acc m c (t.val + 1)).2 := by
  rw [(dats m 0 c).arrAt_succ (2 : Fin 3) t, if_pos h]
  funext i
  have e := View.write_emb_of_mem (v := ((cfg0.win 2).blk t).view) (Val := Elt F) ((dats m 0 c).arrAt 2 t.val) ((dats m 0 c).flushed 2 t) (Finset.mem_univ i)
  rw [emb_2] at e
  exact e

/-- The result's array after the last write-back. -/
theorem arr_2 (c : Dev nD) : (dats m 0 c).arrAt 2 62 = (acc m c 62).2 :=
  arr_succ m c ⟨61, by decide⟩ ((flush0_2 _).mpr rfl)

/-- The kernel runs and its result holds the running index after the last point. -/
theorem value_run : θ_run defs (onTc (τ := τ) (main (F := F))) (s₀ m ρ)
    (fun r => ∀ c : Dev nD, r.2.mem ((c.tc : Thread nD τ).loc main_v12) = shapeCast S64 (acc m c 62).2 shapeCasts_S64x1_S64
      ∧ r.2.mem ((c.tc : Thread nD τ).loc main_arg0) = m ((c.tc : Thread nD τ).loc main_arg0)) :=
  (θ_run defs _ _).mono (fun r h c => ⟨by
    rw [(h.1 c).2 main_v12 (by decide)]
    unfold Pipeline.afterTail₀
    simp only [List.flatten_cons, List.flatten_nil, List.append_nil]
    unfold hostOps1
    after_reads_simp
    have e := Pipeline.withArrays_arr (cfgs 0).spec launch0.win.arr_inj c (V0 m c) (fun w => (dats m 0 c).arrAt w (cfgs 0).N) 2
    have e2 : Pipeline.withArrays (cfgs 0).spec c (V0 m c) (fun w => (dats m 0 c).arrAt w (cfgs 0).N) (Proc.devRef .tc main_v11) = (acc m c 62).2 :=
      e.trans (arr_2 m c)
    rw [e2]
    rfl, ((h.1 c).1 0).trans (((dats m 0 c).arrAt_in 0 rfl _).trans (V_main_arg0 m c))⟩)
    (run_main m ρ)

end Cert.KernelIdeal.Own

end
-- ==== Proof.Ops.lean ====
/-
  Straight lines of host operations of `ReferenceIdeal` in which every operation writes a buffer of its own, later than
  the buffers it reads: after such a line every operation's equation holds of the final contents (`settled`).
-/
module

public import proofs.«01_k».proof.Proof.Gen.ReferenceIdeal
public import Idealize.ShloMosaic.Lib.StableHlo.RunHlo

@[expose] public section

noncomputable section

namespace Cert.ReferenceIdeal.Own

open Idealize.ShloMosaic Idealize.SL.Sem
open Cert.ReferenceIdeal

variable {F : FTy → Type} [FloatOps F]

/-- A typed reference of the reference program. -/
abbrev TR (T : BufTy) := StableHlo.TRef sig T

/-- The device's contents. -/
abbrev Vals (F : FTy → Type) [FloatOps F] := Valuation τ sig (Elt F)

/-- A host operation, by what it reads, what it writes and the function between them. -/
inductive Op (F : FTy → Type) [FloatOps F] : Type 1 where
  | nul {T : BufTy} (y : TR T) (v : T.Contents (Elt F))
  | un {T U : BufTy} (x : TR T) (y : TR U) (f : T.Contents (Elt F) → U.Contents (Elt F))
  | bin {T T' U : BufTy} (a : TR T) (b : TR T') (y : TR U) (f : T.Contents (Elt F) → T'.Contents (Elt F) → U.Contents (Elt F))
  | quat {A B C D U : BufTy} (a : TR A) (b : TR B) (c : TR C) (d : TR D) (y : TR U)
      (f : A.Contents (Elt F) → B.Contents (Elt F) → C.Contents (Elt F) → D.Contents (Elt F) → U.Contents (Elt F))
  | resh {s s' : Shape} {e : EltTy} (x : TR ⟨s, e⟩) (y : TR ⟨s', e⟩) (hn : s.ShapeCasts s')

namespace Op

/-- The operation of the program. -/
def hlo : Op F → HloOp τ sig (Elt F)
  | nul y v => StableHlo.TRef.nullary y v
  | un x y f => StableHlo.TRef.unary x y f
  | bin a b y f => StableHlo.TRef.binary a b y f
  | quat a b c d y f => StableHlo.TRef.quaternary a b c d y f
  | resh x y hn => StableHlo.TRef.reshape x y rfl hn

/-- The buffer it writes. -/
def out : Op F → Ref sig .tc
  | nul y _ => y.ref
  | un _ y _ => y.ref
  | bin _ _ y _ => y.ref
  | quat _ _ _ _ y _ => y.ref
  | resh _ y _ => y.ref

/-- The buffers it reads. -/
def ins : Op F → List (Ref sig .tc)
  | nul _ _ => []
  | un x _ _ => [x.ref]
  | bin a b _ _ => [a.ref, b.ref]
  | quat a b c d _ _ => [a.ref, b.ref, c.ref, d.ref]
  | resh x _ _ => [x.ref]

end Op

/-- What a typed reference holds. -/
def rd {T : BufTy} (V : Vals F) (t : TR T) : T.Contents (Elt F) := t.ofBuf (V (Proc.devRef .tc t.ref))

/-- The operation's equation between the contents of its buffers. -/
def Op.eqn (V : Vals F) : Op F → Prop
  | .nul y v => rd V y = v
  | .un x y f => rd V y = f (rd V x)
  | .bin a b y f => rd V y = f (rd V a) (rd V b)
  | .quat a b c d y f => rd V y = f (rd V a) (rd V b) (rd V c) (rd V d)
  | .resh (s' := s') x y hn => rd V y = shapeCast s' (rd V x) hn

/-- A value read from equal contents is the same value. -/
theorem rd_congr {T : BufTy} {V V' : Vals F} (t : TR T) (h : V (Proc.devRef .tc t.ref) = V' (Proc.devRef .tc t.ref)) :
    rd V t = rd V' t := by unfold rd; rw [h]

/-- Two references with different numbers are different. -/
def key (r : Ref sig .tc) : Nat := r.idx.val

/-- Buffers of different places in the order are different. -/
theorem ne_of_key {r r' : Ref sig .tc} (h : key r < key r') : r ≠ r' := fun e => by subst e; exact absurd h (Nat.lt_irrefl _)

/-- The equation depends on the operation's buffers alone. -/
theorem Op.eqn_congr {V V' : Vals F} (o : Op F) (ho : V (Proc.devRef .tc o.out) = V' (Proc.devRef .tc o.out))
    (hi : ∀ r ∈ o.ins, V (Proc.devRef .tc r) = V' (Proc.devRef .tc r)) (h : o.eqn V) : o.eqn V' := by
  cases o with
  | nul y v => exact (rd_congr y ho).symm.trans h
  | un x y f =>
    have e : rd V x = rd V' x := rd_congr x (hi _ (by simp [ins]))
    exact (rd_congr y ho).symm.trans (h.trans (by rw [e]))
  | bin a b y f =>
    have e : rd V a = rd V' a := rd_congr a (hi _ (by simp [ins]))
    have e' : rd V b = rd V' b := rd_congr b (hi _ (by simp [ins]))
    exact (rd_congr y ho).symm.trans (h.trans (by rw [e, e']))
  | quat a b c d y f =>
    have e : rd V a = rd V' a := rd_congr a (hi _ (by simp [ins]))
    have e' : rd V b = rd V' b := rd_congr b (hi _ (by simp [ins]))
    have e'' : rd V c = rd V' c := rd_congr c (hi _ (by simp [ins]))
    have e''' : rd V d = rd V' d := rd_congr d (hi _ (by simp [ins]))
    exact (rd_congr y ho).symm.trans (h.trans (by rw [e, e', e'', e''']))
  | resh x y hn =>
    have e : rd V x = rd V' x := rd_congr x (hi _ (by simp [ins]))
    exact (rd_congr y ho).symm.trans (h.trans (by rw [e]))

/-- An operation leaves every buffer but its result as it was. -/
theorem Op.keeps (o : Op F) (V : Vals F) {r : Ref sig .tc} (h : r ≠ o.out) :
    o.hlo.result V (Proc.devRef .tc r) = V (Proc.devRef .tc r) := by
  refine o.hlo.result_of_not_mem V fun hm => h ?_
  have e : o.hlo.writes = {Proc.devRef .tc o.out} := by cases o <;> rfl
  rw [e] at hm
  exact Proc.devRef_injective _ (Finset.mem_singleton.mp hm)

/-- A reshape's result, its two buffers' types given by equations. -/
theorem resh_aux {s s' : Shape} {e : EltTy} (A B : BufTy) (hA : A = ⟨s, e⟩) (hB : B = ⟨s', e⟩) (v : A.Contents (Elt F))
    (hn : s.ShapeCasts s') (he : A.elt = B.elt) (hc : A.shape.ShapeCasts B.shape) :
    (cast (congrArg (fun U : BufTy => U.Contents (Elt F)) hB)
      (fun i => he ▸ shapeCast B.shape v hc i : B.Contents (Elt F)) : BufTy.Contents (Elt F) ⟨s', e⟩)
      = shapeCast s' (cast (congrArg (fun U : BufTy => U.Contents (Elt F)) hA) v : BufTy.Contents (Elt F) ⟨s, e⟩) hn := by
  subst hA
  subst hB
  rfl

/-- Right after an operation its result holds the operation's function of what it read before. -/
theorem Op.makes (o : Op F) (V : Vals F) (h : ∀ r ∈ o.ins, r ≠ o.out) : o.eqn (o.hlo.result V) := by
  have k : ∀ {T : BufTy} (t : TR T), t.ref ∈ o.ins → rd (o.hlo.result V) t = rd V t :=
    fun t ht => rd_congr t (o.keeps V (h _ ht))
  cases o with
  | nul y v =>
    exact (congrArg y.ofBuf (StableHlo.nullary_result y.ref (y.toBuf v) y.dev V)).trans (StableHlo.TRef.ofBuf_toBuf y v)
  | un x y f =>
    show rd _ y = f (rd _ x)
    rw [k x (by simp [ins])]
    exact (congrArg y.ofBuf (StableHlo.unary_result x.ref y.ref (fun u => y.toBuf (f (x.ofBuf u))) x.dev y.dev V)).trans (StableHlo.TRef.ofBuf_toBuf y _)
  | bin a b y f =>
    show rd _ y = f (rd _ a) (rd _ b)
    rw [k a (by simp [ins]), k b (by simp [ins])]
    exact (congrArg y.ofBuf (StableHlo.binary_result a.ref b.ref y.ref
      (fun u v => y.toBuf (f (a.ofBuf u) (b.ofBuf v))) a.dev b.dev y.dev V)).trans (StableHlo.TRef.ofBuf_toBuf y _)
  | quat a b c d y f =>
    show rd _ y = f (rd _ a) (rd _ b) (rd _ c) (rd _ d)
    rw [k a (by simp [ins]), k b (by simp [ins]), k c (by simp [ins]), k d (by simp [ins])]
    exact (congrArg y.ofBuf (StableHlo.quaternary_result a.ref b.ref c.ref d.ref y.ref
      (fun t u v w => y.toBuf (f (a.ofBuf t) (b.ofBuf u) (c.ofBuf v) (d.ofBuf w))) a.dev b.dev c.dev d.dev y.dev V)).trans
      (StableHlo.TRef.ofBuf_toBuf y _)
  | resh x y hn =>
    show rd _ y = shapeCast _ (rd _ x) _
    rw [k x (by simp [ins])]
    exact (congrArg y.ofBuf (StableHlo.reshape_result x.ref y.ref _ _ x.dev y.dev V)).trans
      (resh_aux _ _ x.ty_eq y.ty_eq _ hn _ _)

/-- The line of the operations. -/
def line (ops : List (Op F)) : List (HloOp τ sig (Elt F)) := ops.map Op.hlo

/-- Every operation of the list writes a buffer numbered `n` or more, later than those before it write and later than
    those it reads. -/
def ordered : Nat → List (Op F) → Bool
  | _, [] => true
  | n, o :: os => Nat.ble n (key o.out) && (o.ins.all fun r => Nat.blt (key r) (key o.out)) && ordered (key o.out + 1) os

/-- All the equations of a list of operations. -/
def Eqs (V : Vals F) : List (Op F) → Prop
  | [] => True
  | o :: os => o.eqn V ∧ Eqs V os

/-- The equations of two lists are those of each. -/
theorem Eqs.append {V : Vals F} : {l l' : List (Op F)} → Eqs V (l ++ l') → Eqs V l ∧ Eqs V l'
  | [], _, h => ⟨trivial, h⟩
  | _ :: _, _, h => ⟨⟨h.1, (Eqs.append h.2).1⟩, (Eqs.append h.2).2⟩

/-- After an ordered line the equations of all its operations hold, and the buffers numbered below it are as they were. -/
theorem settled (ops : List (Op F)) : ∀ (n : Nat) (V : Vals F), ordered n ops = true →
    Eqs (StableHlo.after (line ops) V) ops ∧
      ∀ r : Ref sig .tc, key r < n → StableHlo.after (line ops) V (Proc.devRef .tc r) = V (Proc.devRef .tc r) := by
  induction ops with
  | nil => exact fun n V _ => ⟨trivial, fun _ _ => rfl⟩
  | cons o os ih =>
    intro n V h
    simp only [ordered, Bool.and_eq_true, Nat.ble_eq, List.all_eq_true, Nat.blt_eq] at h
    obtain ⟨⟨hn, hi⟩, hr⟩ := h
    obtain ⟨h1, h2⟩ := ih _ (o.hlo.result V) hr
    refine ⟨⟨?_, h1⟩, fun r hk => ?_⟩
    · exact o.eqn_congr (h2 _ (Nat.lt_succ_self _)).symm (fun r hm => (h2 r (Nat.lt_succ_of_lt (hi r hm))).symm)
        (o.makes V fun r hm => ne_of_key (hi r hm))
    · exact (h2 r (by omega)).trans (o.keeps V (ne_of_key (by omega)))

/-- The buffers of an operation are among the device's. -/
theorem Op.bufs_sub (o : Op F) : o.hlo.bufs ⊆ StableHlo.tcRefs τ sig := by
  cases o with
  | nul y v => exact StableHlo.nullary_bufs_sub y.ref _ y.dev
  | un x y f => exact StableHlo.unary_bufs_sub (Val := Elt F) x.ref y.ref (fun u => y.toBuf (f (x.ofBuf u))) x.dev y.dev
  | bin a b y f => exact StableHlo.binary_bufs_sub (Val := Elt F) a.ref b.ref y.ref (fun u v => y.toBuf (f (a.ofBuf u) (b.ofBuf v))) a.dev b.dev y.dev
  | quat a b c d y f =>
    exact StableHlo.quaternary_bufs_sub (Val := Elt F) a.ref b.ref c.ref d.ref y.ref
      (fun t u v w => y.toBuf (f (a.ofBuf t) (b.ofBuf u) (c.ofBuf v) (d.ofBuf w))) a.dev b.dev c.dev d.dev y.dev
  | resh x y hn => exact StableHlo.reshape_bufs_sub x.ref y.ref _ _ x.dev y.dev

/-- It determines its result. -/
theorem Op.fresh_eq (o : Op F) : o.hlo.fresh = ∅ := by cases o <;> rfl

end Cert.ReferenceIdeal.Own

end
-- ==== Proof.Lines.lean ====
/-
  The reference's host program as ordered lines of operations. The generator that the program calls twice, at one counter
  and at all of them, is one text over shapes (`threefry`): five groups of four rounds and a key injection.
-/
module

public import proofs.«01_k».proof.Proof.Ops

@[expose] public section

set_option maxRecDepth 65536

noncomputable section

namespace Cert.ReferenceIdeal.Own

open Idealize.ShloMosaic Idealize.SL.Sem
open Cert.ReferenceIdeal Cert.ReferenceIdeal.Facts₀ Cert.ReferenceIdeal.Facts

variable {F : FTy → Type} [FloatOps F] [Facts]

/-- The buffers of one call of the generator over words of shape `s`: the two of the third key word, the constants in order,
    and the word vectors in order. -/
structure Regs (s : Shape) where
  k : TR ⟨S_, .i32⟩
  k2 : TR ⟨S_, .i32⟩
  cs : List (TR ⟨S_, .i32⟩)
  vs : List (TR ⟨s, .i32⟩)
  hb : S_.BroadcastsInDim s (![] : Fin 0 → Fin s.rank)

variable {s : Shape}

/-- The `i`-th constant. -/
def Regs.c (R : Regs s) (i : Nat) : TR ⟨S_, .i32⟩ := R.cs.getD i R.k
/-- The `i`-th word vector (the first is numbered 2); past the end `d`. -/
def Regs.v (R : Regs s) (d : TR ⟨s, .i32⟩) (i : Nat) : TR ⟨s, .i32⟩ := R.vs.getD (i - 2) d

/-- One round on the words `a` and `b`: the sum, and the second word rotated by `l` (`r` being `32 - l`) combined with it. -/
def round (hb : S_.BroadcastsInDim s (![] : Fin 0 → Fin s.rank)) (l r : BitVec 32) (a b : TR ⟨s, .i32⟩) (c c' : TR ⟨S_, .i32⟩)
    (t0 t1 t2 t3 t4 t5 t6 : TR ⟨s, .i32⟩) : List (Op F) :=
  [.bin a b t0 addi, .nul c (constantI S_ 32 l), .un c t1 (broadcastInDim s ![] hb), .bin b t1 t2 Host.shli,
   .nul c' (constantI S_ 32 r), .un c' t3 (broadcastInDim s ![] hb), .bin b t3 t4 Host.shrui, .bin t2 t4 t5 ori,
   .bin t0 t5 t6 xori]

/-- One injection of the keys `k` and `k'` and the number `n`. -/
def inject (hb : S_.BroadcastsInDim s (![] : Fin 0 → Fin s.rank)) (n : BitVec 32) (a b : TR ⟨s, .i32⟩) (k k' c : TR ⟨S_, .i32⟩)
    (t0 t1 t2 t3 t4 t5 : TR ⟨s, .i32⟩) : List (Op F) :=
  [.un k t0 (broadcastInDim s ![] hb), .bin a t0 t1 addi, .un k' t2 (broadcastInDim s ![] hb), .bin b t2 t3 addi,
   .nul c (constantI S_ 32 n), .un c t4 (broadcastInDim s ![] hb), .bin t3 t4 t5 addi]

/-- The `j`-th round of the group whose word vectors start at `i` and whose constants start at `m`. -/
def roundAt (R : Regs s) (d : TR ⟨s, .i32⟩) (i m j : Nat) (l r : BitVec 32) (a b : TR ⟨s, .i32⟩) : List (Op F) :=
  round R.hb l r a b (R.c (m + 2 * j)) (R.c (m + 2 * j + 1)) (R.v d (i + 7 * j)) (R.v d (i + 7 * j + 1)) (R.v d (i + 7 * j + 2))
    (R.v d (i + 7 * j + 3)) (R.v d (i + 7 * j + 4)) (R.v d (i + 7 * j + 5)) (R.v d (i + 7 * j + 6))

/-- A group: four rounds by the rotations `q`, and the injection of `k`, `k'` and `n`. -/
def group (R : Regs s) (d : TR ⟨s, .i32⟩) (i m : Nat) (q : Fin 4 → BitVec 32) (n : BitVec 32) (k k' : TR ⟨S_, .i32⟩)
    (a b : TR ⟨s, .i32⟩) : List (Op F) :=
  roundAt R d i m 0 (q 0) (32#32 - q 0) a b ++ (roundAt R d i m 1 (q 1) (32#32 - q 1) (R.v d i) (R.v d (i + 6)) ++
    (roundAt R d i m 2 (q 2) (32#32 - q 2) (R.v d (i + 7)) (R.v d (i + 13)) ++
      (roundAt R d i m 3 (q 3) (32#32 - q 3) (R.v d (i + 14)) (R.v d (i + 20)) ++
        inject R.hb n (R.v d (i + 21)) (R.v d (i + 27)) k k' (R.c (m + 8)) (R.v d (i + 28)) (R.v d (i + 29)) (R.v d (i + 30))
          (R.v d (i + 31)) (R.v d (i + 32)) (R.v d (i + 33)))))

/-- The rotations of the even groups. -/
def qa : Fin 4 → BitVec 32 := ![13#32, 15#32, 26#32, 6#32]
/-- The rotations of the odd groups. -/
def qb : Fin 4 → BitVec 32 := ![17#32, 29#32, 16#32, 24#32]

/-- The generator's first operations: the third key word, and the first two keys added to the counters. -/
def opening (R : Regs s) (a0 a1 : TR ⟨S_, .i32⟩) (a2 a3 : TR ⟨s, .i32⟩) : List (Op F) :=
  [.bin a0 a1 R.k xori, .nul (R.c 0) (constantI S_ 32 466688986#32), .bin R.k (R.c 0) R.k2 xori,
   .un a0 (R.v a2 2) (broadcastInDim s ![] R.hb), .bin a2 (R.v a2 2) (R.v a2 3) addi,
   .un a1 (R.v a2 4) (broadcastInDim s ![] R.hb), .bin a3 (R.v a2 4) (R.v a2 5) addi]

/-- The generator under the keys `a0`, `a1` at the counters `a2`, `a3`. -/
def threefry (R : Regs s) (a0 a1 : TR ⟨S_, .i32⟩) (a2 a3 : TR ⟨s, .i32⟩) : List (Op F) :=
  opening R a0 a1 a2 a3 ++ (group R a2 6 1 qa 1#32 a1 R.k2 (R.v a2 3) (R.v a2 5) ++
    (group R a2 40 10 qb 2#32 R.k2 a0 (R.v a2 35) (R.v a2 39) ++ (group R a2 74 19 qa 3#32 a0 a1 (R.v a2 69) (R.v a2 73) ++
      (group R a2 108 28 qb 4#32 a1 R.k2 (R.v a2 103) (R.v a2 107) ++ group R a2 142 37 qa 5#32 R.k2 a0 (R.v a2 137) (R.v a2 141)))))

/-- The buffers of one call of the generator over one counter. -/
def regs1 (φ : fn_threefry2x32.Bufs) : Regs S1 where
  k := φ.v0
  k2 := φ.v1
  cs := [
    φ.c, φ.c_0, φ.c_1, φ.c_2, φ.c_3, φ.c_4, φ.c_5, φ.c_6, φ.c_7, φ.c_8, φ.c_9, φ.c_10, φ.c_11, φ.c_12, φ.c_13, φ.c_14, φ.c_15, φ.c_16, φ.c_17,
    φ.c_18, φ.c_19, φ.c_20, φ.c_21, φ.c_22, φ.c_23, φ.c_24, φ.c_25, φ.c_26, φ.c_27, φ.c_28, φ.c_29, φ.c_30, φ.c_31, φ.c_32, φ.c_33, φ.c_34, φ.c_35,
    φ.c_36, φ.c_37, φ.c_38, φ.c_39, φ.c_40, φ.c_41, φ.c_42, φ.c_43, φ.c_44]
  vs := [
    φ.v2, φ.v3, φ.v4, φ.v5, φ.v6, φ.v7, φ.v8, φ.v9, φ.v10, φ.v11, φ.v12, φ.v13, φ.v14, φ.v15, φ.v16, φ.v17, φ.v18, φ.v19, φ.v20, φ.v21, φ.v22, φ.v23,
    φ.v24, φ.v25, φ.v26, φ.v27, φ.v28, φ.v29, φ.v30, φ.v31, φ.v32, φ.v33, φ.v34, φ.v35, φ.v36, φ.v37, φ.v38, φ.v39, φ.v40, φ.v41, φ.v42, φ.v43,
    φ.v44, φ.v45, φ.v46, φ.v47, φ.v48, φ.v49, φ.v50, φ.v51, φ.v52, φ.v53, φ.v54, φ.v55, φ.v56, φ.v57, φ.v58, φ.v59, φ.v60, φ.v61, φ.v62, φ.v63,
    φ.v64, φ.v65, φ.v66, φ.v67, φ.v68, φ.v69, φ.v70, φ.v71, φ.v72, φ.v73, φ.v74, φ.v75, φ.v76, φ.v77, φ.v78, φ.v79, φ.v80, φ.v81, φ.v82, φ.v83,
    φ.v84, φ.v85, φ.v86, φ.v87, φ.v88, φ.v89, φ.v90, φ.v91, φ.v92, φ.v93, φ.v94, φ.v95, φ.v96, φ.v97, φ.v98, φ.v99, φ.v100, φ.v101, φ.v102, φ.v103,
    φ.v104, φ.v105, φ.v106, φ.v107, φ.v108, φ.v109, φ.v110, φ.v111, φ.v112, φ.v113, φ.v114, φ.v115, φ.v116, φ.v117, φ.v118, φ.v119, φ.v120, φ.v121,
    φ.v122, φ.v123, φ.v124, φ.v125, φ.v126, φ.v127, φ.v128, φ.v129, φ.v130, φ.v131, φ.v132, φ.v133, φ.v134, φ.v135, φ.v136, φ.v137, φ.v138, φ.v139,
    φ.v140, φ.v141, φ.v142, φ.v143, φ.v144, φ.v145, φ.v146, φ.v147, φ.v148, φ.v149, φ.v150, φ.v151, φ.v152, φ.v153, φ.v154, φ.v155, φ.v156, φ.v157,
    φ.v158, φ.v159, φ.v160, φ.v161, φ.v162, φ.v163, φ.v164, φ.v165, φ.v166, φ.v167, φ.v168, φ.v169, φ.v170, φ.v171, φ.v172, φ.v173, φ.v174, φ.v175]
  hb := bcast_S_S1

/-- The buffers of one call of the generator over all the counters. -/
def regs2 (φ : fn_threefry2x32_0.Bufs) : Regs S64x1000000 where
  k := φ.v0
  k2 := φ.v1
  cs := [
    φ.c, φ.c_0, φ.c_1, φ.c_2, φ.c_3, φ.c_4, φ.c_5, φ.c_6, φ.c_7, φ.c_8, φ.c_9, φ.c_10, φ.c_11, φ.c_12, φ.c_13, φ.c_14, φ.c_15, φ.c_16, φ.c_17,
    φ.c_18, φ.c_19, φ.c_20, φ.c_21, φ.c_22, φ.c_23, φ.c_24, φ.c_25, φ.c_26, φ.c_27, φ.c_28, φ.c_29, φ.c_30, φ.c_31, φ.c_32, φ.c_33, φ.c_34, φ.c_35,
    φ.c_36, φ.c_37, φ.c_38, φ.c_39, φ.c_40, φ.c_41, φ.c_42, φ.c_43, φ.c_44]
  vs := [
    φ.v2, φ.v3, φ.v4, φ.v5, φ.v6, φ.v7, φ.v8, φ.v9, φ.v10, φ.v11, φ.v12, φ.v13, φ.v14, φ.v15, φ.v16, φ.v17, φ.v18, φ.v19, φ.v20, φ.v21, φ.v22, φ.v23,
    φ.v24, φ.v25, φ.v26, φ.v27, φ.v28, φ.v29, φ.v30, φ.v31, φ.v32, φ.v33, φ.v34, φ.v35, φ.v36, φ.v37, φ.v38, φ.v39, φ.v40, φ.v41, φ.v42, φ.v43,
    φ.v44, φ.v45, φ.v46, φ.v47, φ.v48, φ.v49, φ.v50, φ.v51, φ.v52, φ.v53, φ.v54, φ.v55, φ.v56, φ.v57, φ.v58, φ.v59, φ.v60, φ.v61, φ.v62, φ.v63,
    φ.v64, φ.v65, φ.v66, φ.v67, φ.v68, φ.v69, φ.v70, φ.v71, φ.v72, φ.v73, φ.v74, φ.v75, φ.v76, φ.v77, φ.v78, φ.v79, φ.v80, φ.v81, φ.v82, φ.v83,
    φ.v84, φ.v85, φ.v86, φ.v87, φ.v88, φ.v89, φ.v90, φ.v91, φ.v92, φ.v93, φ.v94, φ.v95, φ.v96, φ.v97, φ.v98, φ.v99, φ.v100, φ.v101, φ.v102, φ.v103,
    φ.v104, φ.v105, φ.v106, φ.v107, φ.v108, φ.v109, φ.v110, φ.v111, φ.v112, φ.v113, φ.v114, φ.v115, φ.v116, φ.v117, φ.v118, φ.v119, φ.v120, φ.v121,
    φ.v122, φ.v123, φ.v124, φ.v125, φ.v126, φ.v127, φ.v128, φ.v129, φ.v130, φ.v131, φ.v132, φ.v133, φ.v134, φ.v135, φ.v136, φ.v137, φ.v138, φ.v139,
    φ.v140, φ.v141, φ.v142, φ.v143, φ.v144, φ.v145, φ.v146, φ.v147, φ.v148, φ.v149, φ.v150, φ.v151, φ.v152, φ.v153, φ.v154, φ.v155, φ.v156, φ.v157,
    φ.v158, φ.v159, φ.v160, φ.v161, φ.v162, φ.v163, φ.v164, φ.v165, φ.v166, φ.v167, φ.v168, φ.v169, φ.v170, φ.v171, φ.v172, φ.v173, φ.v174, φ.v175]
  hb := bcast_S_S64x1000000

set_option maxHeartbeats 4000000 in
/-- The generator at one counter is that line. -/
theorem small_eq (a0 a1 : TR ⟨S_, .i32⟩) (a2 a3 : TR ⟨S1, .i32⟩) (φ : fn_threefry2x32.Bufs) :
    fn_threefry2x32.body (F := F) a0 a1 a2 a3 φ = StableHlo.seq (line (threefry (regs1 φ) a0 a1 a2 a3)) := (rfl)

set_option maxHeartbeats 4000000 in
/-- The generator at all the counters is that line. -/
theorem large_eq (a0 a1 : TR ⟨S_, .i32⟩) (a2 a3 : TR ⟨S64x1000000, .i32⟩) (φ : fn_threefry2x32_0.Bufs) :
    fn_threefry2x32_0.body (F := F) a0 a1 a2 a3 φ = StableHlo.seq (line (threefry (regs2 φ) a0 a1 a2 a3)) := (rfl)

end Cert.ReferenceIdeal.Own

end
-- ==== Proof.Main.lean ====
/-
  The reference's `main` as one ordered line of operations (`main_eq`), and its run (`run_line`).
-/
module

public import proofs.«01_k».proof.Proof.Lines
public import Idealize.ShloMosaic.Lib.Quiescent

@[expose] public section

set_option maxRecDepth 65536

noncomputable section

namespace Cert.ReferenceIdeal.Own

open Idealize.ShloMosaic Idealize.SL.Sem
open Cert.ReferenceIdeal Cert.ReferenceIdeal.Facts₀ Cert.ReferenceIdeal.Facts

variable {F : FTy → Type} [FloatOps F] [Facts]

/-- The seed's key pair, zero and zero, and the number folded in. -/
def pre : List (Op F) := [
    .nul (.of main_c : TR ⟨S_, .i32⟩) (constantI S_ 32 0#32),
    .nul (.of main_c_0 : TR ⟨S_, .i32⟩) (constantI S_ 32 32#32),
    .bin (.of main_c : TR ⟨S_, .i32⟩) (.of main_c_0 : TR ⟨S_, .i32⟩) (.of main_v0 : TR ⟨S_, .i32⟩) Host.shrui,
    .un (.of main_v0 : TR ⟨S_, .i32⟩) (.of main_v1 : TR ⟨S_, .i32⟩) id,
    .un (.of main_v1 : TR ⟨S_, .i32⟩) (.of main_v2 : TR ⟨S1, .i32⟩) (broadcastInDim S1 ![] bcast_S_S1),
    .nul (.of main_c_1 : TR ⟨S_, .i32⟩) (constantI S_ 32 4294967295#32),
    .bin (.of main_c : TR ⟨S_, .i32⟩) (.of main_c_1 : TR ⟨S_, .i32⟩) (.of main_v3 : TR ⟨S_, .i32⟩) andi,
    .un (.of main_v3 : TR ⟨S_, .i32⟩) (.of main_v4 : TR ⟨S_, .i32⟩) id,
    .un (.of main_v4 : TR ⟨S_, .i32⟩) (.of main_v5 : TR ⟨S1, .i32⟩) (broadcastInDim S1 ![] bcast_S_S1),
    .bin (.of main_v2 : TR ⟨S1, .i32⟩) (.of main_v5 : TR ⟨S1, .i32⟩) (.of main_v6 : TR ⟨S2, .i32⟩) (fun a b => concatenate S2 0 [⟨S1, a⟩, ⟨S1, b⟩] concatenates_S1_S1_S2_d0),
    .nul (.of main_c_2 : TR ⟨S_, .i32⟩) (constantI S_ 32 1#32)]

/-- Folding the number `a1` into the key pair `a0`: the operations before the generator. -/
def foldPre (a0 : TR ⟨S2, .i32⟩) (a1 : TR ⟨S_, .i32⟩) (φ : fn_threefry_fold_in.Bufs) : List (Op F) := [
    .nul φ.c (constantI S_ 32 32#32),
    .bin a1 φ.c φ.v0 Host.shrui,
    .un φ.v0 φ.v1 (broadcastInDim S1 ![] bcast_S_S1),
    .nul φ.c_0 (constantI S_ 32 4294967295#32),
    .bin a1 φ.c_0 φ.v2 andi,
    .un φ.v2 φ.v3 (broadcastInDim S1 ![] bcast_S_S1),
    .bin φ.v1 φ.v3 φ.v4 (fun a b => concatenate S2 0 [⟨S1, a⟩, ⟨S1, b⟩] concatenates_S1_S1_S2_d0),
    .un a0 φ.v5 (extractStridedSlice S1 ![0] · slices_S2_S1_0),
    .resh φ.v5 φ.v6 shapeCasts_S1_S_,
    .un a0 φ.v7 (extractStridedSlice S1 ![1] · slices_S2_S1_1),
    .resh φ.v7 φ.v8 shapeCasts_S1_S_,
    .un φ.v4 φ.v9 (extractStridedSlice S1 ![0] · slices_S2_S1_0),
    .un φ.v4 φ.v10 (extractStridedSlice S1 ![1] · slices_S2_S1_1)]

/-- And the one after it: the two words are the new pair. -/
def foldPost (φ : fn_threefry_fold_in.Bufs) : List (Op F) :=
  [.bin φ.call0.v171 φ.call0.v175 φ.v12 (fun a b => concatenate S2 0 [⟨S1, a⟩, ⟨S1, b⟩] concatenates_S1_S1_S2_d0)]

/-- The key words of the folded pair, and the counters: each element's number, in a high and a low word. -/
def mid : List (Op F) := [
    .un (.of main_v7 : TR ⟨S2, .i32⟩) (.of main_v8 : TR ⟨S1, .i32⟩) (extractStridedSlice S1 ![0] · slices_S2_S1_0),
    .resh (.of main_v8 : TR ⟨S1, .i32⟩) (.of main_v9 : TR ⟨S_, .i32⟩) shapeCasts_S1_S_,
    .un (.of main_v7 : TR ⟨S2, .i32⟩) (.of main_v10 : TR ⟨S1, .i32⟩) (extractStridedSlice S1 ![1] · slices_S2_S1_1),
    .resh (.of main_v10 : TR ⟨S1, .i32⟩) (.of main_v11 : TR ⟨S_, .i32⟩) shapeCasts_S1_S_,
    .nul (.of main_v12 : TR ⟨S64x1000000, .i64⟩) (iotaInDim S64x1000000 64 0),
    .nul (.of main_v13 : TR ⟨S64x1000000, .i64⟩) (iotaInDim S64x1000000 64 1),
    .nul (.of main_c_3 : TR ⟨S_, .i64⟩) (constantI S_ 64 1000000#64),
    .un (.of main_c_3 : TR ⟨S_, .i64⟩) (.of main_v14 : TR ⟨S64x1000000, .i64⟩) (broadcastInDim S64x1000000 ![] bcast_S_S64x1000000),
    .bin (.of main_v14 : TR ⟨S64x1000000, .i64⟩) (.of main_v12 : TR ⟨S64x1000000, .i64⟩) (.of main_v15 : TR ⟨S64x1000000, .i64⟩) muli,
    .nul (.of main_c_4 : TR ⟨S_, .i64⟩) (constantI S_ 64 1#64),
    .un (.of main_c_4 : TR ⟨S_, .i64⟩) (.of main_v16 : TR ⟨S64x1000000, .i64⟩) (broadcastInDim S64x1000000 ![] bcast_S_S64x1000000),
    .bin (.of main_v16 : TR ⟨S64x1000000, .i64⟩) (.of main_v13 : TR ⟨S64x1000000, .i64⟩) (.of main_v17 : TR ⟨S64x1000000, .i64⟩) muli,
    .bin (.of main_v15 : TR ⟨S64x1000000, .i64⟩) (.of main_v17 : TR ⟨S64x1000000, .i64⟩) (.of main_v18 : TR ⟨S64x1000000, .i64⟩) addi,
    .nul (.of main_c_5 : TR ⟨S_, .i64⟩) (constantI S_ 64 32#64),
    .un (.of main_c_5 : TR ⟨S_, .i64⟩) (.of main_v19 : TR ⟨S64x1000000, .i64⟩) (broadcastInDim S64x1000000 ![] bcast_S_S64x1000000),
    .bin (.of main_v18 : TR ⟨S64x1000000, .i64⟩) (.of main_v19 : TR ⟨S64x1000000, .i64⟩) (.of main_v20 : TR ⟨S64x1000000, .i64⟩) Host.shrui,
    .un (.of main_v18 : TR ⟨S64x1000000, .i64⟩) (.of main_v21 : TR ⟨S64x1000000, .i32⟩) (trunci 32 · natLt_32_64),
    .un (.of main_v20 : TR ⟨S64x1000000, .i64⟩) (.of main_v22 : TR ⟨S64x1000000, .i32⟩) (trunci 32 · natLt_32_64)]

/-- The uniform numbers of the random words, the noise, and the perturbed logits. -/
def post : List (Op F) := [
    .bin (.of main_v23_0 : TR ⟨S64x1000000, .i32⟩) (.of main_v23_1 : TR ⟨S64x1000000, .i32⟩) (.of main_v24 : TR ⟨S64x1000000, .i32⟩) xori,
    .nul (.of main_c_6 : TR ⟨S_, .i32⟩) (constantI S_ 32 9#32),
    .un (.of main_c_6 : TR ⟨S_, .i32⟩) (.of main_v25 : TR ⟨S64x1000000, .i32⟩) (broadcastInDim S64x1000000 ![] bcast_S_S64x1000000),
    .bin (.of main_v24 : TR ⟨S64x1000000, .i32⟩) (.of main_v25 : TR ⟨S64x1000000, .i32⟩) (.of main_v26 : TR ⟨S64x1000000, .i32⟩) Host.shrui,
    .nul (.of main_c_7 : TR ⟨S_, .i32⟩) (constantI S_ 32 1065353216#32),
    .un (.of main_c_7 : TR ⟨S_, .i32⟩) (.of main_v27 : TR ⟨S64x1000000, .i32⟩) (broadcastInDim S64x1000000 ![] bcast_S_S64x1000000),
    .bin (.of main_v26 : TR ⟨S64x1000000, .i32⟩) (.of main_v27 : TR ⟨S64x1000000, .i32⟩) (.of main_v28 : TR ⟨S64x1000000, .i32⟩) ori,
    .un (.of main_v28 : TR ⟨S64x1000000, .i32⟩) (.of main_v29 : TR ⟨S64x1000000, .f32⟩) (bitcastToFloat .f32),
    .nul (.of main_cst : TR ⟨S_, .f32⟩) (constant S_ .f32 0x3F800000#32),
    .un (.of main_cst : TR ⟨S_, .f32⟩) (.of main_v30 : TR ⟨S64x1000000, .f32⟩) (broadcastInDim S64x1000000 ![] bcast_S_S64x1000000),
    .bin (.of main_v29 : TR ⟨S64x1000000, .f32⟩) (.of main_v30 : TR ⟨S64x1000000, .f32⟩) (.of main_v31 : TR ⟨S64x1000000, .f32⟩) subf,
    .nul (.of main_cst_8 : TR ⟨S_, .f32⟩) (constant S_ .f32 0x3F800000#32),
    .un (.of main_cst_8 : TR ⟨S_, .f32⟩) (.of main_v32 : TR ⟨S64x1000000, .f32⟩) (broadcastInDim S64x1000000 ![] bcast_S_S64x1000000),
    .bin (.of main_v31 : TR ⟨S64x1000000, .f32⟩) (.of main_v32 : TR ⟨S64x1000000, .f32⟩) (.of main_v33 : TR ⟨S64x1000000, .f32⟩) mulf,
    .nul (.of main_cst_9 : TR ⟨S_, .f32⟩) (constant S_ .f32 0x1E3CE508#32),
    .un (.of main_cst_9 : TR ⟨S_, .f32⟩) (.of main_v34 : TR ⟨S64x1000000, .f32⟩) (broadcastInDim S64x1000000 ![] bcast_S_S64x1000000),
    .bin (.of main_v33 : TR ⟨S64x1000000, .f32⟩) (.of main_v34 : TR ⟨S64x1000000, .f32⟩) (.of main_v35 : TR ⟨S64x1000000, .f32⟩) addf,
    .nul (.of main_cst_10 : TR ⟨S_, .f32⟩) (constant S_ .f32 0x1E3CE508#32),
    .un (.of main_cst_10 : TR ⟨S_, .f32⟩) (.of main_v36 : TR ⟨S64x1000000, .f32⟩) (broadcastInDim S64x1000000 ![] bcast_S_S64x1000000),
    .bin (.of main_v36 : TR ⟨S64x1000000, .f32⟩) (.of main_v35 : TR ⟨S64x1000000, .f32⟩) (.of main_v37 : TR ⟨S64x1000000, .f32⟩) maximumf,
    .un (.of main_v37 : TR ⟨S64x1000000, .f32⟩) (.of main_v38 : TR ⟨S64x1000000, .f32⟩) Host.log,
    .un (.of main_v38 : TR ⟨S64x1000000, .f32⟩) (.of main_v39 : TR ⟨S64x1000000, .f32⟩) Host.negf,
    .un (.of main_v39 : TR ⟨S64x1000000, .f32⟩) (.of main_v40 : TR ⟨S64x1000000, .f32⟩) Host.log,
    .un (.of main_v40 : TR ⟨S64x1000000, .f32⟩) (.of main_v41 : TR ⟨S64x1000000, .f32⟩) Host.negf,
    .bin (.of main_arg0 : TR ⟨S64x1000000, .f32⟩) (.of main_v41 : TR ⟨S64x1000000, .f32⟩) (.of main_v42 : TR ⟨S64x1000000, .f32⟩) addf]

/-- The arg-max of each row. -/
def tops (a : TR ⟨S64x1000000, .f32⟩) (φ : fn_argmax.Bufs) : List (Op F) := [
    .nul φ.v0 (iotaInDim S64x1000000 32 1),
    .nul φ.cst (constant S_ .f32 0xFF800000#32),
    .nul φ.c (constantI S_ 32 0#32),
    .quat a φ.v0 φ.cst φ.c φ.v1_0 (fun x y u v j => (Host.argReduce reducer_argmax_f32_i32 x y u v reducesTo_S64x1000000_S64_d1 h_S_ j).1),
    .quat a φ.v0 φ.cst φ.c φ.v1_1 (fun x y u v j => (Host.argReduce reducer_argmax_f32_i32 x y u v reducesTo_S64x1000000_S64_d1 h_S_ j).2)]

/-- The generator's line in the fold. -/
def gen1 : List (Op F) := threefry (regs1 main_call0_call0) main_call0.v6 main_call0.v8 main_call0.v9 main_call0.v10
/-- The generator's line at all the counters. -/
def gen2 : List (Op F) := threefry (regs2 main_call1) (.of main_v9) (.of main_v11) (.of main_v22) (.of main_v21)

/-- The whole program. -/
def ops : List (Op F) :=
  pre ++ (foldPre (.of main_v6) (.of main_c_2) main_call0 ++ (gen1 ++ (foldPost main_call0 ++
    (mid ++ (gen2 ++ (post ++ tops (.of main_v42) main_call2))))))

/-- The line of two lists is one line after the other. -/
theorem line_append (l l' : List (Op F)) : line (l ++ l') = line l ++ line l' := List.map_append

/-- One line after another, continued. -/
theorem seq_step (l : List (Op F)) (p q : Prog (TpuEff nD τ sig (Elt F) (Pipeline.Sig Λ₀ (Fin 0) fun p => (pcfgs (F := F) p).Adm) .tc) PUnit)
    (l' : List (Op F)) (hq : q = StableHlo.seq (line l')) (hp : p = (StableHlo.seq (line l) >>= fun _ => q)) :
    p = StableHlo.seq (line (l ++ l')) := by
  rw [line_append, StableHlo.seq_append, hp, hq]

set_option maxHeartbeats 4000000 in
/-- The fold is its line. -/
theorem fold_eq (φ : fn_threefry_fold_in.Bufs) (a0 : TR ⟨S2, .i32⟩) (a1 : TR ⟨S_, .i32⟩) :
    fn_threefry_fold_in.body (F := F) a0 a1 φ = StableHlo.seq (line (foldPre a0 a1 φ ++
      (threefry (regs1 φ.call0) φ.v6 φ.v8 φ.v9 φ.v10 ++ foldPost φ))) := by
  unfold fn_threefry_fold_in.body
  rw [small_eq]
  rw [line_append, line_append, StableHlo.seq_append, StableHlo.seq_append]
  generalize StableHlo.seq (line (threefry (F := F) (regs1 φ.call0) φ.v6 φ.v8 φ.v9 φ.v10)) = g
  rfl

set_option maxHeartbeats 4000000 in
/-- `main` is the whole line. -/
theorem main_eq (d : Dev nD) : main (F := F) d = StableHlo.seq (line ops) := by
  have e : (StableHlo.seq (line (ops (F := F))) : Prog (TpuEff nD τ sig (Elt F) (Pipeline.Sig Λ₀ (Fin 0) fun p => (pcfgs (F := F) p).Adm) .tc) PUnit)
      = StableHlo.seq (line pre) >>= fun _ => StableHlo.seq (line (foldPre (.of main_v6) (.of main_c_2) main_call0 ++
          (threefry (regs1 main_call0.call0) main_call0.v6 main_call0.v8 main_call0.v9 main_call0.v10 ++ foldPost main_call0))) >>= fun _ =>
        StableHlo.seq (line mid) >>= fun _ =>
        StableHlo.seq (line (threefry (regs2 main_call1) (.of main_v9) (.of main_v11) (.of main_v22) (.of main_v21))) >>= fun _ =>
        StableHlo.seq (line (post ++ tops (.of main_v42) main_call2)) := by
    rw [← StableHlo.seq_append, ← StableHlo.seq_append, ← StableHlo.seq_append, ← StableHlo.seq_append]
    unfold ops gen1 gen2
    simp only [line_append, List.append_assoc]
  rw [e]
  unfold main
  rw [fold_eq, large_eq]
  generalize StableHlo.seq (line (threefry (F := F) (regs2 main_call1) _ _ _ _)) = g
  generalize StableHlo.seq (line (foldPre (F := F) _ _ _ ++ _)) = g'
  rfl

set_option maxHeartbeats 4000000 in
/-- The line is ordered. -/
theorem ops_ordered : ordered 1 (ops (F := F)) = true := (rfl)

/-- The reference runs; at the end its argument is as it was and every operation's equation holds. -/
theorem run_line (m : (ℓ : Loc nD τ sig) → Buf (Elt F) ℓ) (ρ : Dev nD → PrngReg) :
    θ_run defs (onTc (τ := τ) main) ⟨m, fun _ => 0, ρ⟩ fun r =>
      ∀ c : Dev nD, Eqs (StableHlo.after (line ops) (StableHlo.launchContents m c)) ops ∧
        ∀ b : Ref sig .tc, r.2.mem ((c.tc : Thread nD τ).loc b) = StableHlo.after (line ops) (StableHlo.launchContents m c) (Proc.devRef .tc b) := by
  refine θ_run_mono (StableHlo.run_seq (by decide) (by decide) defs main (fun _ => line ops) main_eq (fun _ => ?_) m ρ (fun _ op h => ?_)) ?_
  · rw [List.forall_iff_forall_mem]
    intro op h
    obtain ⟨o, _, rfl⟩ := List.mem_map.mp h
    exact o.bufs_sub
  · obtain ⟨o, _, rfl⟩ := List.mem_map.mp h
    exact o.fresh_eq
  · exact fun r h c => ⟨(settled ops 1 _ ops_ordered).1, h c⟩

/-- The reference runs, leaves its argument unchanged and every semaphore at zero. -/
theorem frame_run (m : (ℓ : Loc nD τ sig) → Buf (Elt F) ℓ) (ρ : Dev nD → PrngReg) :
    θ_run defs (onTc (τ := τ) main) ⟨m, fun _ => 0, ρ⟩ fun r =>
      (∀ c : Dev nD, r.2.mem ((c.tc : Thread nD τ).loc main_arg0) = m ((c.tc : Thread nD τ).loc main_arg0)) ∧ r.2.sem = fun _ => 0 :=
  θ_run_mono (run_line m ρ) fun r h =>
    ⟨fun c => ((h c).2 main_arg0).trans ((settled ops 1 _ ops_ordered).2 main_arg0 (by decide)), sem_eq_zero_of_no_sems (by decide) _⟩

end Cert.ReferenceIdeal.Own

end
-- ==== Proof.Words.lean ====
/-
  The random number generator on single words: what both programs compute at each element.
-/
module

public import Idealize.ShloMosaic.PureOps.Vector

@[expose] public section

namespace Cert.Own

/-- A pair of words. -/
abbrev Pair := BitVec 32 × BitVec 32

/-- One round: the sum, and the second word rotated left by `l` (`r` being `32 - l`) combined with it. -/
def rnd (l r : BitVec 32) (p : Pair) : Pair := (p.1 + p.2, (p.1 + p.2) ^^^ ((p.2 <<< l) ||| (p.2 >>> r)))

/-- One injection: a key added to each word, and the number `n` to the second. -/
def inj (a b n : BitVec 32) (p : Pair) : Pair := (p.1 + a, p.2 + b + n)

/-- Four rounds with the first rotations, then an injection. -/
def grpA (a b n : BitVec 32) (p : Pair) : Pair :=
  inj a b n (rnd 6#32 26#32 (rnd 26#32 6#32 (rnd 15#32 17#32 (rnd 13#32 19#32 p))))
/-- Four rounds with the second rotations, then an injection. -/
def grpB (a b n : BitVec 32) (p : Pair) : Pair :=
  inj a b n (rnd 24#32 8#32 (rnd 16#32 16#32 (rnd 29#32 3#32 (rnd 17#32 15#32 p))))

/-- The five groups under the keys `k0`, `k1`, `k2`. -/
def mix (k0 k1 k2 : BitVec 32) (p : Pair) : Pair :=
  grpA k2 k0 5#32 (grpB k1 k2 4#32 (grpA k0 k1 3#32 (grpB k2 k0 2#32 (grpA k1 k2 1#32 p))))

/-- The generator's two words under the keys `k0`, `k1` at the counters `c0`, `c1`. -/
def gen (k0 k1 c0 c1 : BitVec 32) : Pair := mix k0 k1 (k0 ^^^ k1 ^^^ 466688986#32) (c0 + k0, c1 + k1)

/-- Folding the number 1 into the seed's keys, zero and zero, gives these two keys. -/
theorem gen_one : gen 0#32 0#32 0#32 1#32 = (928981903#32, 3453687069#32) := by decide +kernel

/-- The random bits of column `k` of row `r`: the generator's two words at the element's number, combined. -/
def rowBits (r k : Nat) : BitVec 32 :=
  (gen 928981903#32 3453687069#32 0#32 (BitVec.ofNat 32 (r * 1000000 + k))).1
    ^^^ (gen 928981903#32 3453687069#32 0#32 (BitVec.ofNat 32 (r * 1000000 + k))).2

end Cert.Own
-- ==== Proof.Noise.lean ====
/-
  A perturbed logit as an extended real, in the form each program computes it.
-/
module

public import proofs.«01_k».proof.Proof.Words
public import Idealize.ShloMosaic.PureOps.Ideal.Laws
public import Idealize.ShloMosaic.Lib.IdealHost

@[expose] public section

noncomputable section

namespace Cert.Own

open Idealize.ShloMosaic

/-- The float with the upper 23 of the random bits `b` after the point: at least one and below two. -/
def unit (b : BitVec 32) : EReal := Ideal.ofBits .f32 ((b >>> 9) ||| 1065353216#32)

/-- It is at least one. -/
theorem one_le_unit (b : BitVec 32) : 1 ≤ unit b := by
  have hs : ((b >>> 9) ||| 1065353216#32).extractLsb' 31 1 = 0#1 := by
    apply BitVec.eq_of_getLsbD_eq
    intro i hi
    obtain rfl : i = 0 := by omega
    simp
  have he : ((b >>> 9) ||| 1065353216#32).extractLsb' 23 8 = 127#8 := by
    apply BitVec.eq_of_getLsbD_eq
    intro i hi
    have hb : (b >>> 9).getLsbD (23 + i) = false := by
      rw [BitVec.getLsbD_ushiftRight]; exact BitVec.getLsbD_of_ge _ _ (by omega)
    rw [BitVec.getLsbD_extractLsb', BitVec.getLsbD_or, hb]
    have hc : ∀ i : Fin 8, (decide (i.val < 8) && (false || (1065353216#32).getLsbD (23 + i.val))) = (127#8).getLsbD i.val := by decide
    exact hc ⟨i, hi⟩
  show 1 ≤ Ideal.ieee 8 23 _
  unfold Ideal.ieee
  simp only [show (8 + 23 : Nat) = 31 from rfl, hs, he]
  rw [if_neg (by decide), if_neg (by decide), show (1 : EReal) = ((1 : ℝ) : EReal) by norm_cast, EReal.coe_le_coe_iff]
  have h2 : ((2 : ℝ) ^ (((127#8).toNat : Int) - (2 ^ (8 - 1) - 1) - ((23 : Nat) : Int))) = ((2 : ℝ) ^ 23)⁻¹ := by
    rw [show (((127#8).toNat : Int) - (2 ^ (8 - 1) - 1) - ((23 : Nat) : Int)) = -((23 : Nat) : Int) from by decide, zpow_neg, zpow_natCast]
  rw [h2]
  have h3 : (0 : ℝ) < (2 : ℝ) ^ 23 := by positivity
  have h0 : (0#1 == 1#1) = false := by decide
  rw [h0]
  simp only [Bool.false_eq_true, if_false, one_mul]
  rw [← div_eq_mul_inv, le_div_iff₀ h3, one_mul]
  have h4 : ∀ n : Nat, (2 : ℝ) ^ 23 ≤ ((2 ^ 23 + n : Nat) : ℝ) := fun n => by
    push_cast
    have : (0 : ℝ) ≤ (n : ℝ) := Nat.cast_nonneg n
    linarith
  exact h4 _

/-- The noise subtracted from a logit at the random bits `b`: the logarithm of minus the logarithm of a uniform number. -/
def dip (b : BitVec 32) : EReal := Ideal.log (-Ideal.log (unit b - 1 + Ideal.ofBits .f32 0x1E3CE508#32))

/-- The perturbed logit: the logit `x` at the random bits `b`. -/
def score (x : EReal) (b : BitVec 32) : EReal := x - dip b

/-- The kernel's form: zero less the logarithm, subtracted. -/
theorem score_kernel (x : EReal) (b : BitVec 32) :
    x - Ideal.log (Ideal.ofBits .f32 0x00000000#32
      - Ideal.log (unit b - Ideal.ofBits .f32 0x3F800000#32 + Ideal.ofBits .f32 0x1E3CE508#32)) = score x b := by
  rw [Ideal.ofBits_zero_f32, Ideal.ofBits_one_f32, sub_eq_add_neg 0, zero_add]; rfl

/-- The reference's form: the uniform number scaled by one and held at or above the least, the logarithms negated and added. -/
theorem score_reference (x : EReal) (b : BitVec 32) :
    x + -Ideal.log (-Ideal.log (max (Ideal.ofBits .f32 0x1E3CE508#32)
      ((unit b - Ideal.ofBits .f32 0x3F800000#32) * Ideal.ofBits .f32 0x3F800000#32 + Ideal.ofBits .f32 0x1E3CE508#32))) = score x b := by
  rw [Ideal.ofBits_one_f32, mul_one, max_eq_right, ← sub_eq_add_neg]
  · rfl
  · refine le_add_of_nonneg_left ?_
    have h := EReal.sub_le_sub (one_le_unit b) (le_refl (1 : EReal))
    refine le_trans (le_of_eq ?_) h
    rw [show (1 : EReal) = ((1 : ℝ) : EReal) by norm_cast, ← EReal.coe_sub, sub_self]; rfl

/-- The element of row `r` and column `k`. -/
def cell (r : Fin 64) (k : Fin 1000000) : (⟨2, ![64, 1000000]⟩ : Shape).Idx := fun a => match a with | ⟨0, _⟩ => r | ⟨1, _⟩ => k

/-- Row `r` of the perturbed logits, column by column, and minus infinity past the last column. -/
def rowScore (x : (⟨2, ![64, 1000000]⟩ : Shape).Idx → EReal) (r : Fin 64) (k : Nat) : EReal :=
  if h : k < 1000000 then score (x (cell r ⟨k, h⟩)) (rowBits r.val k) else ⊥

/-- Inside the row. -/
theorem rowScore_of_lt (x : (⟨2, ![64, 1000000]⟩ : Shape).Idx → EReal) (r : Fin 64) (k : Nat) (h : k < 1000000) :
    rowScore x r k = score (x (cell r ⟨k, h⟩)) (rowBits r.val k) := dif_pos h

/-- Past its end. -/
theorem rowScore_of_ge (x : (⟨2, ![64, 1000000]⟩ : Shape).Idx → EReal) (r : Fin 64) (k : Nat) (h : 1000000 ≤ k) :
    rowScore x r k = ⊥ := dif_neg (by omega)

end Cert.Own

end
-- ==== Proof.Best.lean ====
/-
  The first index of the largest value of a row: what it is, that there is one only, and how a chunk of columns or a
  single pair extends it.
-/
module

public import Idealize.ShloMosaic.PureOps.Ideal.Laws

@[expose] public section

namespace Cert.Own

open Idealize.ShloMosaic

/-- `v` is the largest of the values `f k` at the columns `k` of `D`, and `i` the first column that holds it; over no
    columns, or where every value is minus infinity, `v` is minus infinity and `i` may be zero. -/
def TopOn (f : Nat → EReal) (D : Nat → Prop) (v : EReal) (i : Nat) : Prop :=
  (∀ k, D k → f k ≤ v ∧ (f k = v → i ≤ k)) ∧ ((v = ⊥ ∧ i = 0) ∨ (D i ∧ f i = v))

/-- The same over the first `n` columns. -/
abbrev Top (f : Nat → EReal) (n : Nat) (v : EReal) (i : Nat) : Prop := TopOn f (· < n) v i

/-- Over no columns. -/
theorem TopOn.start (f : Nat → EReal) (D : Nat → Prop) (h : ∀ k, ¬ D k) : TopOn f D ⊥ 0 :=
  ⟨fun k hk => absurd hk (h k), .inl ⟨rfl, rfl⟩⟩

variable {f g : Nat → EReal} {D D' : Nat → Prop} {n n' w i i' l : Nat} {v v' m : EReal}

/-- Of two largest values over the same columns the first is at most the second. -/
theorem TopOn.le (h : TopOn f D v i) (h' : TopOn f D v' i') : v ≤ v' := by
  rcases h.2 with ⟨e, _⟩ | ⟨hi, e⟩
  · rw [e]; exact bot_le
  · rw [← e]; exact (h'.1 i hi).1

/-- Of two first columns of the largest value the first is at most the second. -/
theorem TopOn.first (h : Top f n v i) (h' : Top f n v i') : i ≤ i' := by
  rcases h'.2 with ⟨e, e'⟩ | ⟨hi, e⟩
  · rcases h.2 with ⟨_, e2⟩ | ⟨hi, _⟩
    · omega
    · have h0 := h.1 0 (by show 0 < n; have : i < n := hi; omega)
      rw [e] at h0
      have := h0.2 (le_bot_iff.1 h0.1)
      omega
  · exact (h.1 i' hi).2 e

/-- There is one largest value and one first column. -/
theorem TopOn.unique (h : Top f n v i) (h' : Top f n v' i') : v = v' ∧ i = i' := by
  have e : v = v' := le_antisymm (h.le h') (h'.le h)
  subst e
  exact ⟨rfl, Nat.le_antisymm (h.first h') (h'.first h)⟩

/-- Only the columns and their values matter. -/
theorem TopOn.congr (h : TopOn f D v i) (hD : ∀ k, D k ↔ D' k) (hf : ∀ k, D k → f k = g k) : TopOn g D' v i :=
  ⟨fun k hk => by rw [← hf k ((hD k).2 hk)]; exact h.1 k ((hD k).2 hk),
    h.2.imp id fun ⟨hi, e⟩ => ⟨(hD i).1 hi, by rw [← hf i hi]; exact e⟩⟩

/-- `w` further columns with the largest value `m`, first at their column `l`: the maximum moves only where `m` is
    greater. -/
theorem TopOn.grow (h : Top f n v i) (hm : ∀ k, k < w → f (n + k) ≤ m ∧ (f (n + k) = m → l ≤ k))
    (hl : m = ⊥ ∨ (l < w ∧ f (n + l) = m)) :
    Top f (n + w) (if v < m then m else v) (if v < m then n + l else i) := by
  by_cases hv : v < m
  · rw [if_pos hv, if_pos hv]
    refine ⟨fun k hk => ?_, .inr ?_⟩
    · by_cases hkn : k < n
      · have := lt_of_le_of_lt (h.1 k hkn).1 hv
        exact ⟨this.le, fun e => absurd e this.ne⟩
      · obtain ⟨k', rfl⟩ : ∃ k', k = n + k' := ⟨k - n, by omega⟩
        have hk' := hm k' (by have : n + k' < n + w := hk; omega)
        exact ⟨hk'.1, fun e => Nat.add_le_add_left (hk'.2 e) n⟩
    · rcases hl with e | ⟨h1, h2⟩
      · rw [e] at hv; exact absurd hv not_lt_bot
      · exact ⟨by show n + l < n + w; omega, h2⟩
  · rw [if_neg hv, if_neg hv]
    refine ⟨fun k hk => ?_, ?_⟩
    · by_cases hkn : k < n
      · exact h.1 k hkn
      · obtain ⟨k', rfl⟩ : ∃ k', k = n + k' := ⟨k - n, by omega⟩
        have hk' := hm k' (by have : n + k' < n + w := hk; omega)
        refine ⟨hk'.1.trans (not_lt.1 hv), fun e => ?_⟩
        rcases h.2 with ⟨_, e2⟩ | ⟨hi, _⟩
        · omega
        · have : i < n := hi
          omega
    · exact h.2.imp id fun ⟨hi, e⟩ => ⟨by show i < n + w; have : i < n := hi; omega, e⟩

/-- Columns past `n` that hold minus infinity change nothing. -/
theorem TopOn.trim (hn : 0 < n) (hnn : n ≤ n') (hf : ∀ k, n ≤ k → k < n' → f k = ⊥) (h : Top f n' v i) : Top f n v i := by
  refine ⟨fun k hk => h.1 k (by show k < n'; have : k < n := hk; omega), ?_⟩
  rcases h.2 with e | ⟨hi, e⟩
  · exact .inl e
  · by_cases hin : i < n
    · exact .inr ⟨hin, e⟩
    · rw [hf i (by omega) hi] at e
      have h0 := h.1 0 (by show 0 < n'; omega)
      rw [← e] at h0
      have := h0.2 (le_bot_iff.1 h0.1)
      omega

/-- Words below `2 ^ 31` compare, signed, as their numbers. -/
theorem slt_ofNat (i k : Nat) (hi : i < 2 ^ 31) (hk : k < 2 ^ 31) : (BitVec.ofNat 32 i).slt (BitVec.ofNat 32 k) = decide (i < k) := by
  have e : ∀ x : Nat, x < 2 ^ 31 → (BitVec.ofNat 32 x).toInt = x := fun x hx => by
    rw [BitVec.toInt_eq_toNat_of_lt (by rw [BitVec.toNat_ofNat]; omega), BitVec.toNat_ofNat]
    congr 1; omega
  rw [BitVec.slt, e i hi, e k hk]
  exact decide_eq_decide.2 Int.ofNat_lt

/-- The greater value of two pairs with its index, the smaller index on equal values. -/
noncomputable def red (a b : EReal × BitVec 32) : EReal × BitVec 32 :=
  (if b.1 < a.1 then a.1 else b.1, if b.1 < a.1 ∨ (a.1 = b.1 ∧ a.2.slt b.2 = true) then a.2 else b.2)

/-- One pair more. -/
theorem TopOn.red_step (h : TopOn f D v i) (hi : i < 2 ^ 31) (k : Nat) (hk : k < 2 ^ 31) :
    ∃ v' i', i' < 2 ^ 31 ∧ red (v, BitVec.ofNat 32 i) (f k, BitVec.ofNat 32 k) = (v', BitVec.ofNat 32 i')
      ∧ TopOn f (fun x => D x ∨ x = k) v' i' := by
  unfold red
  simp only [slt_ofNat i k hi hk, decide_eq_true_eq]
  rcases lt_trichotomy (f k) v with hlt | heq | hgt
  · refine ⟨v, i, hi, by rw [if_pos hlt, if_pos (.inl hlt)], ?_, h.2.imp id fun ⟨a, b⟩ => ⟨.inl a, b⟩⟩
    rintro x (hx | rfl)
    · exact h.1 x hx
    · exact ⟨hlt.le, fun e => absurd e hlt.ne⟩
  · by_cases hik : i < k
    · refine ⟨v, i, hi, by rw [if_neg (by rw [heq]; exact lt_irrefl v), if_pos (.inr ⟨heq.symm, hik⟩), heq], ?_,
        h.2.imp id fun ⟨a, b⟩ => ⟨.inl a, b⟩⟩
      rintro x (hx | rfl)
      · exact h.1 x hx
      · exact ⟨heq.le, fun _ => hik.le⟩
    · refine ⟨v, k, hk, by
        rw [if_neg (by rw [heq]; exact lt_irrefl v), if_neg (by rintro (a | a); exacts [absurd heq a.ne, hik a.2]), heq], ?_,
        .inr ⟨.inr rfl, heq⟩⟩
      rintro x (hx | rfl)
      · exact ⟨(h.1 x hx).1, fun e => le_trans (not_lt.1 hik) ((h.1 x hx).2 e)⟩
      · exact ⟨heq.le, fun _ => le_rfl⟩
  · refine ⟨f k, k, hk, by
      rw [if_neg (not_lt.2 hgt.le), if_neg (by rintro (a | a); exacts [absurd a (not_lt.2 hgt.le), absurd a.1 hgt.ne])], ?_,
      .inr ⟨.inr rfl, rfl⟩⟩
    rintro x (hx | rfl)
    · have := lt_of_le_of_lt (h.1 x hx).1 hgt
      exact ⟨this.le, fun e => absurd e this.ne⟩
    · exact ⟨le_rfl, fun _ => le_rfl⟩

/-- The pairs of a list, taken one after another in any order, leave the largest value and its first column. -/
theorem TopOn.fold {ι : Type} (f : Nat → EReal) (col : ι → Nat) (L : List ι) (hL : ∀ a ∈ L, col a < 2 ^ 31) :
    ∀ (D : Nat → Prop) (v : EReal) (i : Nat), i < 2 ^ 31 → TopOn f D v i →
    ∃ v' i', L.foldl (fun r a => red r (f (col a), BitVec.ofNat 32 (col a))) (v, BitVec.ofNat 32 i) = (v', BitVec.ofNat 32 i')
      ∧ TopOn f (fun x => D x ∨ ∃ a ∈ L, col a = x) v' i' := by
  induction L with
  | nil => exact fun D v i _ h => ⟨v, i, rfl, h.congr (fun k => by simp) fun _ _ => rfl⟩
  | cons a L ih =>
    intro D v i hi h
    obtain ⟨v1, i1, hi1, e1, h1⟩ := h.red_step hi (col a) (hL a (List.mem_cons_self ..))
    obtain ⟨v2, i2, e2, h2⟩ := ih (fun b hb => hL b (List.mem_cons_of_mem _ hb)) _ v1 i1 hi1 h1
    refine ⟨v2, i2, ?_, h2.congr (fun k => ?_) fun _ _ => rfl⟩
    · rw [List.foldl_cons, e1]; exact e2
    · constructor
      · rintro ((hd | rfl) | ⟨b, hb, rfl⟩)
        · exact .inl hd
        · exact .inr ⟨a, List.mem_cons_self .., rfl⟩
        · exact .inr ⟨b, List.mem_cons_of_mem _ hb, rfl⟩
      · rintro (hd | ⟨b, hb, rfl⟩)
        · exact .inl (.inl hd)
        · rcases List.mem_cons.1 hb with rfl | hb
          · exact .inl (.inr rfl)
          · exact .inr ⟨b, hb, rfl⟩

/-- A fold of an operation that picks the lesser of two values, in an order `le`, is a least value of the set and the
    initial one. -/
theorem fold_pick {α ι : Type} (op : α → α → α) [Std.Commutative op] [Std.Associative op] (le : α → α → Prop)
    (refl : ∀ a, le a a) (trans : ∀ a b c, le a b → le b c → le a c) (left : ∀ a b, le (op a b) a) (right : ∀ a b, le (op a b) b)
    (pick : ∀ a b, op a b = a ∨ op a b = b) (init : α) (g : ι → α) (S : Finset ι) :
    (∀ k ∈ S, le (S.fold op init g) (g k)) ∧ le (S.fold op init g) init
      ∧ (S.fold op init g = init ∨ ∃ k ∈ S, S.fold op init g = g k) := by
  induction S using Finset.cons_induction with
  | empty => exact ⟨fun k hk => absurd hk (Finset.notMem_empty k), refl init, .inl rfl⟩
  | cons a S ha ih =>
    obtain ⟨h1, h2, h3⟩ := ih
    rw [Finset.fold_cons]
    refine ⟨fun k hk => ?_, trans _ _ _ (right _ _) h2, ?_⟩
    · rcases Finset.mem_cons.1 hk with rfl | hk
      · exact left _ _
      · exact trans _ _ _ (right _ _) (h1 k hk)
    · rcases pick (g a) (S.fold op init g) with e | e
      · exact .inr ⟨a, Finset.mem_cons_self a S, e⟩
      · rw [e]
        exact h3.imp id fun ⟨k, hk, ek⟩ => ⟨k, Finset.mem_cons_of_mem hk, ek⟩

/-- A maximum from minus infinity bounds every value and, unless it is minus infinity, is one of them. -/
theorem fold_max {ι : Type} (g : ι → EReal) (S : Finset ι) :
    (∀ k ∈ S, g k ≤ S.fold max ⊥ g) ∧ (S.fold max ⊥ g = ⊥ ∨ ∃ k ∈ S, S.fold max ⊥ g = g k) := by
  have h := fold_pick (fun a b : EReal => max a b) (fun a b => b ≤ a) (fun _ => le_rfl) (fun _ _ _ a b => b.trans a)
    (fun a b => le_max_left a b) (fun a b => le_max_right a b)
    (fun a b => (le_total a b).elim (fun e => .inr (max_eq_right e)) fun e => .inl (max_eq_left e)) ⊥ g S
  exact ⟨h.1, h.2.2⟩

/-- A signed minimum from the largest word is below every word and is one of them or that. -/
theorem fold_minsi {ι : Type} (g : ι → BitVec 32) (S : Finset ι) :
    (∀ k ∈ S, (S.fold IKind.minsi.op 2147483647#32 g).toInt ≤ (g k).toInt)
      ∧ (S.fold IKind.minsi.op 2147483647#32 g = 2147483647#32 ∨ ∃ k ∈ S, S.fold IKind.minsi.op 2147483647#32 g = g k) := by
  have e : ∀ a b : BitVec 32, IKind.minsi.op a b = if a.toInt < b.toInt then a else b := fun a b => by
    show IntOp.minsi a b = _
    unfold IntOp.minsi BitVec.slt
    simp only [decide_eq_true_eq]
  have h := fold_pick IKind.minsi.op (fun a b : BitVec 32 => a.toInt ≤ b.toInt) (fun _ => le_rfl) (fun _ _ _ a b => a.trans b)
    (fun a b => by rw [e]; split <;> omega) (fun a b => by rw [e]; split <;> omega)
    (fun a b => by rw [e]; split; exacts [.inl rfl, .inr rfl]) 2147483647#32 g S
  exact ⟨h.1, h.2.2⟩

end Cert.Own
-- ==== Proof.KVal.lean ====
/-
  What one chunk of the kernel does to the running maximum and index of a row, at ideal values.
-/
module

public import proofs.«01_k».proof.Proof.KOut
public import proofs.«01_k».proof.Proof.Words
public import proofs.«01_k».proof.Proof.Noise
public import proofs.«01_k».proof.Proof.Best
public import Idealize.ShloMosaic.Lib.Pointwise

@[expose] public section

set_option maxRecDepth 65536

noncomputable section

namespace Cert.KernelIdeal.Own

open Cert.KernelIdeal Cert.KernelIdeal.Facts₀ Cert.KernelIdeal.Facts
open Idealize.ShloMosaic

/-- A round, element by element. -/
theorem rnd_apply (l r : BitVec 32) (hl : l.toNat < 32) (hr : r.toNat < 32) (p : W × W) (j : S64x512.Idx) :
    ((rnd l r p).1 j, (rnd l r p).2 j) = Cert.Own.rnd l r (p.1 j, p.2 j) := by
  refine Prod.ext rfl ?_
  show IntOp.ori (IntOp.shli .vector (p.2 j) l) (IntOp.shrui .vector (p.2 j) r) ^^^ (p.1 j + p.2 j) = _
  have e1 : IntOp.shli .vector (p.2 j) l = p.2 j <<< l := if_pos hl
  have e2 : IntOp.shrui .vector (p.2 j) r = p.2 j >>> r := if_pos hr
  rw [e1, e2, BitVec.xor_comm]; rfl

/-- An injection, element by element. -/
theorem inj_apply (a b n : BitVec 32) (p : W × W) (j : S64x512.Idx) :
    ((inj a b n p).1 j, (inj a b n p).2 j) = Cert.Own.inj a b n (p.1 j, p.2 j) := rfl

/-- Four rounds and an injection, with the first rotations. -/
theorem four_apply (a b n : BitVec 32) (p : W × W) (j : S64x512.Idx) :
    ((inj a b n (four p)).1 j, (inj a b n (four p)).2 j) = Cert.Own.grpA a b n (p.1 j, p.2 j) := by
  unfold four Cert.Own.grpA
  rw [inj_apply, rnd_apply _ _ (by decide) (by decide), rnd_apply _ _ (by decide) (by decide),
    rnd_apply _ _ (by decide) (by decide), rnd_apply _ _ (by decide) (by decide)]

/-- And with the second. -/
theorem four'_apply (a b n : BitVec 32) (p : W × W) (j : S64x512.Idx) :
    ((inj a b n (four' p)).1 j, (inj a b n (four' p)).2 j) = Cert.Own.grpB a b n (p.1 j, p.2 j) := by
  unfold four' Cert.Own.grpB
  rw [inj_apply, rnd_apply _ _ (by decide) (by decide), rnd_apply _ _ (by decide) (by decide),
    rnd_apply _ _ (by decide) (by decide), rnd_apply _ _ (by decide) (by decide)]

/-- The generator's words, element by element. -/
theorem words_apply (x1 : W) (j : S64x512.Idx) :
    ((words x1).1 j, (words x1).2 j) = Cert.Own.mix 928981903#32 3453687069#32 3780455752#32 (928981903#32, x1 j) := by
  unfold words Cert.Own.mix
  rw [four_apply, four'_apply, four_apply, four'_apply, four_apply]; rfl

/-- The chunk's random bits at a lane whose counter is `c`. -/
theorem bits_apply (x1 : W) (j : S64x512.Idx) (r k : Nat) (h : x1 j = BitVec.ofNat 32 (r * 1000000 + k) + 3453687069#32) :
    bits x1 j = Cert.Own.rowBits r k := by
  have e := words_apply x1 j
  rw [h] at e
  have e' : ((words x1).1 j, (words x1).2 j) = Cert.Own.gen 928981903#32 3453687069#32 0#32 (BitVec.ofNat 32 (r * 1000000 + k)) := e
  show (words x1).1 j ^^^ (words x1).2 j = _
  unfold Cert.Own.rowBits
  rw [← e']

/-- A logit less the noise at the bits `b`, element by element: its score. -/
theorem sub_noise (x : FVec Ideal S64x512 .f32) (b : W) (j : S64x512.Idx) : subf x (noise b) j = Cert.Own.score (x j) (b j) :=
  (show subf x (noise b) j = x j - Ideal.log (Ideal.ofBits .f32 0x00000000#32
      - Ideal.log (Cert.Own.unit (b j) - Ideal.ofBits .f32 0x3F800000#32 + Ideal.ofBits .f32 0x1E3CE508#32)) from rfl).trans
    (Cert.Own.score_kernel (x j) (b j))

variable (m : (ℓ : Loc nD τ sig) → Buf (Elt Ideal) ℓ)

/-- The chunk's perturbed logits: at each lane the score of its logit at its column's bits. -/
theorem phi_apply (c : Dev nD) (C : Nat) (x : FVec Ideal S64x512 .f32) (j : S64x512.Idx) :
    phi (F := Ideal) (BitVec.ofNat 32 C) (counters m c) x j = Cert.Own.score (x j) (Cert.Own.rowBits (j 0).val (C + (j 1).val)) := by
  have e : addi (shapeCast S64x512 (counters m c) shapeCasts_S64x512_S64x512) (broadcast S64x512 (BitVec.ofNat 32 C)) j
      = BitVec.ofNat 32 ((j 0).val * 1000000 + (C + (j 1).val)) + 3453687069#32 := by
    rw [shapeCast_self]
    show counters m c j + BitVec.ofNat 32 C = _
    rw [counters_apply, BitVec.ofNat_add, BitVec.ofNat_mul, BitVec.ofNat_add]
    ac_rfl
  unfold phi
  rw [sub_noise, bits_apply _ j _ _ e]

end Cert.KernelIdeal.Own

end
-- ==== Proof.KStep.lean ====
/-
  A chunk extends the running maximum and index of each row by its 512 columns.
-/
module

public import proofs.«01_k».proof.Proof.KVal

@[expose] public section

set_option maxRecDepth 65536

noncomputable section

namespace Cert.KernelIdeal.Own

open Cert.KernelIdeal Cert.KernelIdeal.Facts₀ Cert.KernelIdeal.Facts
open Idealize.ShloMosaic

/-- The pattern of minus infinity. -/
theorem ofBits_bot : Ideal.ofBits .f32 0xFF800000#32 = ⊥ := by simp [Ideal.ofBits, Ideal.ieee]

/-- The element of row `r` at lane `l`. -/
def at2 (r : Fin 64) (l : Fin 512) : S64x512.Idx := fun a => match a with | ⟨0, _⟩ => r | ⟨1, _⟩ => l

/-- The row's element in a vector of rows. -/
def at1 (r : Fin 64) : S64.Idx := fun a => match a with | ⟨0, _⟩ => r

/-- A column of one: the row's element. -/
def col1 (r : Fin 64) : S64x1.Idx := fun a => match a with | ⟨0, _⟩ => r | ⟨1, _⟩ => (0 : Fin 1)

/-- The element of row `r` that a lane reduction meets at lane `l`. -/
theorem lift_eq (r : Fin 64) (l : Fin 512) : reduces_S64x512_S64.lift (at1 r) l = at2 r l := by
  funext a; fin_cases a <;> rfl

/-- A vector of rows as a column. -/
theorem cast_col {α : Type} (x : S64.Idx → α) (r : Fin 64) : shapeCast S64x1 x shapeCasts_S64_S64x1 (col1 r) = x (at1 r) :=
  shapeCast_apply x _ _ _ (by
    rw [Shape.rowMajor_val_one, Shape.rowMajor_val_two]
    show r.val = r.val * 1 + 0
    omega)

/-- The chunk's largest value in row `r`. -/
theorem top_apply (p : FVec Ideal S64x512 .f32) (r : Fin 64) :
    top p (col1 r) = (Finset.univ : Finset (Fin 512)).fold max ⊥ fun l => p (at2 r l) := by
  unfold top
  rw [cast_col]
  refine (Ideal.multiReduction_maximumf_single p _ _ _ _ (at1 r)).trans ?_
  show Finset.fold max (Ideal.ofBits .f32 0xFF800000#32) (p ∘ reduces_S64x512_S64.lift (at1 r)) (Finset.univ : Finset (Fin 512)) = _
  rw [ofBits_bot]
  refine Finset.fold_congr fun l _ => ?_
  exact congrArg p (lift_eq r l)

/-- A lane's number. -/
theorem lanes_apply (j : S64x512.Idx) : lanes j = BitVec.ofNat 32 (j 1).val := by simp [lanes, iota]

/-- The chunk's first lane with that value. -/
theorem spot_apply (p : FVec Ideal S64x512 .f32) (r : Fin 64) :
    spot p (col1 r) = (Finset.univ : Finset (Fin 512)).fold IKind.minsi.op 2147483647#32
      fun l => if p (at2 r l) = top p (col1 r) then BitVec.ofNat 32 l.val else 2147483647#32 := by
  unfold spot
  rw [cast_col]
  refine ((multiReductionI_eq_fold _ _ _ _ _ _).trans (reduces_S64x512_S64.fold_filter_drop_single _ _ _ _)).trans ?_
  refine Finset.fold_congr fun l _ => ?_
  refine (congrArg _ (lift_eq r l)).trans ?_
  have hb : broadcastTo S64x512 (top p) broadcasts_S64x1_S64x512 (at2 r l) = top p (col1 r) :=
    broadcastTo_apply _ _ _ _ fun a => by fin_cases a <;> rfl
  show (if Ideal.cmp .oeq (p (at2 r l)) (broadcastTo S64x512 (top p) broadcasts_S64x1_S64x512 (at2 r l)) = 1#1 then lanes (at2 r l)
    else 2147483647#32) = _
  rw [hb]
  unfold Ideal.cmp
  by_cases h : p (at2 r l) = top p (col1 r)
  · rw [if_pos h, if_pos (by simp [h]), lanes_apply]; rfl
  · rw [if_neg h, if_neg (by simp [h])]

/-- A small number read back from its word as a signed one. -/
theorem toInt_ofNat (x : Nat) (hx : x < 2 ^ 31) : (BitVec.ofNat 32 x).toInt = x := by
  rw [BitVec.toInt_eq_toNat_of_lt (by rw [BitVec.toNat_ofNat]; omega), BitVec.toNat_ofNat]
  congr 1; omega

/-- A chunk's largest value bounds its row and, unless it is minus infinity, stands first at the lane the kernel finds. -/
theorem spot_first (p : FVec Ideal S64x512 .f32) (r : Fin 64) :
    ∃ l : Nat, (∀ k : Fin 512, p (at2 r k) ≤ top p (col1 r) ∧ (p (at2 r k) = top p (col1 r) → l ≤ k.val))
      ∧ (top p (col1 r) = ⊥ ∨ (∃ h : l < 512, p (at2 r ⟨l, h⟩) = top p (col1 r) ∧ spot p (col1 r) = BitVec.ofNat 32 l)) := by
  have hm := Cert.Own.fold_max (fun l => p (at2 r l)) (Finset.univ : Finset (Fin 512))
  rw [← top_apply] at hm
  obtain ⟨hle, hor⟩ := hm
  have hs := Cert.Own.fold_minsi (fun l : Fin 512 => if p (at2 r l) = top p (col1 r) then BitVec.ofNat 32 l.val else 2147483647#32)
    (Finset.univ : Finset (Fin 512))
  rw [← spot_apply] at hs
  obtain ⟨hmin, hpick⟩ := hs
  have hmin' : ∀ k : Fin 512, p (at2 r k) = top p (col1 r) → (spot p (col1 r)).toInt ≤ k.val := fun k hk => by
    have h := hmin k (Finset.mem_univ k)
    rw [if_pos hk, toInt_ofNat _ (by have := k.isLt; omega)] at h
    exact h
  by_cases hb : top p (col1 r) = ⊥
  · exact ⟨0, fun k => ⟨hle k (Finset.mem_univ k), fun _ => Nat.zero_le _⟩, .inl hb⟩
  · obtain ⟨k0, _, hk0⟩ := hor.resolve_left hb
    have hlt : (spot p (col1 r)).toInt < 512 := lt_of_le_of_lt (hmin' k0 hk0.symm) (by exact_mod_cast k0.isLt)
    have hbig : (2147483647#32 : BitVec 32).toInt = 2147483647 := by decide
    rcases hpick with e | ⟨l, _, e⟩
    · rw [e, hbig] at hlt; omega
    · by_cases hl : p (at2 r l) = top p (col1 r)
      · rw [if_pos hl] at e
        refine ⟨l.val, fun k => ⟨hle k (Finset.mem_univ k), fun hk => ?_⟩, .inr ⟨l.isLt, hl, e⟩⟩
        have h := hmin' k hk
        rw [e, toInt_ofNat _ (by have := l.isLt; omega)] at h
        exact_mod_cast h
      · rw [if_neg hl] at e
        rw [e, hbig] at hlt; omega

/-- A choice on the comparison's bit is a choice on the comparison. -/
theorem gt_if {α : Type} (a b : EReal) (x y : α) : (if Ideal.cmp .ogt a b = 1#1 then x else y) = if b < a then x else y := by
  unfold Ideal.cmp
  by_cases hv : b < a <;> simp [hv]

/-- A chunk of values `p`, at columns `C` on, extends what the running maximum and index say of row `r` by 512 columns. -/
theorem step_top (f : Nat → EReal) (C : Nat) (p : FVec Ideal S64x512 .f32) (s : St Ideal) (r : Fin 64)
    (hp : ∀ l : Fin 512, p (at2 r l) = f (C + l.val)) (i : Nat) (h : Cert.Own.Top f C (s.1 (col1 r)) i) (hi : s.2 (col1 r) = BitVec.ofNat 32 i) :
    ∃ i', Cert.Own.Top f (C + 512) ((step (BitVec.ofNat 32 C) p s).1 (col1 r)) i' ∧ (step (BitVec.ofNat 32 C) p s).2 (col1 r) = BitVec.ofNat 32 i' := by
  obtain ⟨l, h1, h2⟩ := spot_first p r
  have e1 : (step (BitVec.ofNat 32 C) p s).1 (col1 r)
      = if Ideal.cmp .ogt (top p (col1 r)) (s.1 (col1 r)) = 1#1 then top p (col1 r) else s.1 (col1 r) := rfl
  have e2 : (step (BitVec.ofNat 32 C) p s).2 (col1 r)
      = if Ideal.cmp .ogt (top p (col1 r)) (s.1 (col1 r)) = 1#1 then spot p (col1 r) + BitVec.ofNat 32 C else s.2 (col1 r) := rfl
  rw [gt_if] at e1 e2
  refine ⟨if s.1 (col1 r) < top p (col1 r) then C + l else i, ?_, ?_⟩
  · rw [e1]
    refine h.grow (fun k hk => ?_) ?_
    · rw [← hp ⟨k, hk⟩]; exact h1 ⟨k, hk⟩
    · rcases h2 with e | ⟨hl, e, _⟩
      · exact .inl e
      · exact .inr ⟨hl, by rw [← hp ⟨l, hl⟩]; exact e⟩
  · rw [e2]
    by_cases hv : s.1 (col1 r) < top p (col1 r)
    · rw [if_pos hv, if_pos hv]
      rcases h2 with e | ⟨hl, _, e⟩
      · rw [e] at hv; exact absurd hv not_lt_bot
      · rw [e, BitVec.ofNat_add, BitVec.add_comm]
    · rw [if_neg hv, if_neg hv, hi]

end Cert.KernelIdeal.Own

end
-- ==== Proof.KGrid.lean ====
/-
  The kernel's result, at ideal values: in each row the first column of the largest perturbed logit.
-/
module

public import proofs.«01_k».proof.Proof.KStep

@[expose] public section

set_option maxRecDepth 65536

noncomputable section

namespace Cert.KernelIdeal.Own

open Cert.KernelIdeal Cert.KernelIdeal.Gen
open Idealize.ShloMosaic Idealize.ShloMosaic.TcCoe
open Idealize.SL Idealize.SL.Sem
open Idealize.ShloMosaic.Pipeline (Dat Cfg Window)

/-- What the running maximum and index `s` say of row `r`: they are those of the first `n` columns of `f`. -/
def Says (f : Nat → EReal) (n : Nat) (s : St Ideal) (r : Fin 64) : Prop :=
  ∃ i, Cert.Own.Top f n (s.1 (col1 r)) i ∧ s.2 (col1 r) = BitVec.ofNat 32 i

/-- Chunks whose values are the columns of `f` extend it chunk by chunk. -/
theorem runChunks_says (msk : BitVec 32 → FVec Ideal S64x512 .f32 → FVec Ideal S64x512 .f32) (C : Nat)
    (X : S64x16384.Idx → EReal) (B : W) (r : Fin 64) (f : Nat → EReal) (K : Nat)
    (hv : ∀ (k : Nat) (hk : k + 1 ≤ 32), k < K → ∀ l : Fin 512,
      msk (BitVec.ofNat 32 (C + 512 * k)) (phi (F := Ideal) (BitVec.ofNat 32 (C + 512 * k)) B (cut (F := Ideal) X k hk)) (at2 r l) = f (C + 512 * k + l.val)) :
    ∀ (n k : Nat) (h : k + n ≤ 32) (s : St Ideal), k + n ≤ K → Says f (C + 512 * k) s r →
      Says f (C + 512 * (k + n)) (runChunks (F := Ideal) msk (BitVec.ofNat 32 C) X B n k h s) r
  | 0, k, h, s, _, hs => hs
  | n + 1, k, h, s, hK, hs => by
    have e : Scalar.addi (BitVec.ofNat 32 C) (BitVec.ofNat 32 (512 * k)) = BitVec.ofNat 32 (C + 512 * k) := (BitVec.ofNat_add _ _).symm
    have hs' : Says f (C + 512 * (k + 1)) (step (BitVec.ofNat 32 (C + 512 * k))
        (msk (BitVec.ofNat 32 (C + 512 * k)) (phi (F := Ideal) (BitVec.ofNat 32 (C + 512 * k)) B (cut (F := Ideal) X k (by omega)))) s) r := by
      obtain ⟨i, h1, h2⟩ := hs
      exact step_top f _ _ s r (hv k (by omega) (by omega)) i h1 h2
    have ih := runChunks_says msk C X B r f K hv n (k + 1) (by omega) _ (by omega) hs'
    unfold runChunks
    rw [e, show C + 512 * (k + (n + 1)) = C + 512 * (k + 1 + n) by omega]
    exact ih

/-- Where a chunk's element lies in its block. -/
theorem slab_idx (k : Nat) (hk : k + 1 ≤ 32) (r : Fin 64) (l : Fin 512) :
    (((slab k hk).toLoadRect.idx (at2 r l)) 0).val = r.val ∧ (((slab k hk).toLoadRect.idx (at2 r l)) 1).val = 512 * k + l.val := by
  constructor
  · simp [Rect.unit, LoadRect.idx, Rect.toLoadRect]; rfl
  · simp [Rect.unit, LoadRect.idx, Rect.toLoadRect]; rfl

variable (m : (ℓ : Loc nD τ sig) → Buf (Elt Ideal) ℓ)

/-- The logits. -/
abbrev logits (c : Dev nD) : (⟨2, ![64, 1000000]⟩ : Shape).Idx → EReal := m ((c.tc : Thread nD τ).loc main_arg0)

/-- The block at point `t` is block `t` of the columns. -/
theorem block_col : ∀ t : Fin 62, cc0_transform_0 (grid0.coords t) 1 = t.val := by decide +kernel

/-- The block at point `t` holds the logits of its columns. -/
theorem blockX_apply (c : Dev nD) (t : Fin 62) (r : Fin 64) (j : S64x16384.Idx) (h0 : (j 0).val = r.val)
    (h : t.val * 16384 + (j 1).val < 1000000) :
    blockX m c t j = logits m c (Cert.Own.cell r ⟨t.val * 16384 + (j 1).val, h⟩) := by
  have hm : win0_0.moved (grid0.coords t) j = true := (win0_0.moved_iff _ j).mpr fun a => by
    have h0 : (j 0).val < 64 := (j 0).isLt
    have h1 : (j 1).val < 16384 := (j 1).isLt
    obtain ⟨i0, i1⟩ := inside t
    match a with
    | ⟨0, _⟩ => exact lt_of_lt_of_le h0 i0
    | ⟨1, _⟩ => exact lt_of_lt_of_le (by omega : (j 1).val < min 16384 (1000000 - 16384 * t.val)) i1
  unfold blockX Window.fill
  rw [dif_pos hm]
  have hV : V m c main_arg0 = logits m c := V_main_arg0 m c
  rw [← hV]
  show V m c main_arg0 _ = V m c main_arg0 _
  congr 1
  funext a
  match a with
  | ⟨0, _⟩ =>
    refine Fin.ext ?_
    show 0 * 64 + 1 * (j 0).val = r.val
    omega
  | ⟨1, _⟩ =>
    refine Fin.ext ?_
    show cc0_transform_0 (grid0.coords t) 1 * 16384 + 1 * (j 1).val = t.val * 16384 + (j 1).val
    rw [block_col]; omega

/-- A chunk's values before any masking, at the columns inside the array. -/
theorem phi_cell (c : Dev nD) (t : Fin 62) (r : Fin 64) (k : Nat) (hk : k + 1 ≤ 32) (l : Fin 512)
    (h : t.val * 16384 + 512 * k + l.val < 1000000) :
    phi (F := Ideal) (BitVec.ofNat 32 (t.val * 16384 + 512 * k)) (counters m c) (cut (F := Ideal) (blockX m c t) k hk) (at2 r l)
      = Cert.Own.rowScore (logits m c) r (t.val * 16384 + 512 * k + l.val) := by
  rw [phi_apply, Cert.Own.rowScore_of_lt _ _ _ h]
  obtain ⟨e0, e1⟩ := slab_idx k hk r l
  have hx : cut (F := Ideal) (blockX m c t) k hk (at2 r l)
      = logits m c (Cert.Own.cell r ⟨t.val * 16384 + 512 * k + l.val, h⟩) := by
    refine (blockX_apply m c t r _ e0 (by rw [e1]; omega)).trans (congrArg _ (congrArg _ (Fin.ext ?_)))
    show t.val * 16384 + (((slab k hk).toLoadRect.idx (at2 r l)) 1).val = t.val * 16384 + 512 * k + l.val
    rw [e1]; omega
  rw [hx]; rfl

/-- And after the last point's masking, at every column. -/
theorem maskTail_cell (c : Dev nD) (t : Fin 62) (r : Fin 64) (k : Nat) (hk : k + 1 ≤ 32) (l : Fin 512) :
    maskTail (F := Ideal) (BitVec.ofNat 32 (t.val * 16384 + 512 * k))
        (phi (F := Ideal) (BitVec.ofNat 32 (t.val * 16384 + 512 * k)) (counters m c) (cut (F := Ideal) (blockX m c t) k hk)) (at2 r l)
      = Cert.Own.rowScore (logits m c) r (t.val * 16384 + 512 * k + l.val) := by
  have hcond : cmpi .slt (addi lanes (broadcast S64x512 (BitVec.ofNat 32 (t.val * 16384 + 512 * k)))) (broadcast S64x512 1000000#32) (at2 r l)
      = BitVec.ofBool (decide (t.val * 16384 + 512 * k + l.val < 1000000)) := by
    show BitVec.ofBool ((lanes (at2 r l) + BitVec.ofNat 32 (t.val * 16384 + 512 * k)).slt (BitVec.ofNat 32 1000000)) = _
    have hl : lanes (at2 r l) = BitVec.ofNat 32 l.val := lanes_apply _
    rw [hl, ← BitVec.ofNat_add, Cert.Own.slt_ofNat _ _ (by have := t.isLt; have := l.isLt; omega) (by omega), Nat.add_comm l.val]
  show Scalar.select (cmpi .slt (addi lanes (broadcast S64x512 (BitVec.ofNat 32 (t.val * 16384 + 512 * k)))) (broadcast S64x512 1000000#32) (at2 r l)) _ _ = _
  rw [hcond]
  by_cases h : t.val * 16384 + 512 * k + l.val < 1000000
  · rw [decide_eq_true h, ← phi_cell m c t r k hk l h]; rfl
  · rw [decide_eq_false h, Cert.Own.rowScore_of_ge _ _ _ (Nat.not_lt.1 h)]
    exact ofBits_bot

/-- A point that is not the last extends the running maximum and index by its block's 16384 columns. -/
theorem point_says (c : Dev nD) (t : Fin 62) (ht : t.val < 61) (s : St Ideal) (r : Fin 64)
    (hs : Says (Cert.Own.rowScore (logits m c) r) (t.val * 16384) s r) :
    Says (Cert.Own.rowScore (logits m c) r) ((t.val + 1) * 16384) (point (F := Ideal) t.val (blockX m c t) (counters m c) s) r := by
  unfold point
  rw [if_neg (by omega), show (t.val + 1) * 16384 = t.val * 16384 + 512 * (0 + 32) by omega,
    show Scalar.muli (BitVec.ofNat 32 t.val) 16384#32 = BitVec.ofNat 32 (t.val * 16384) from (BitVec.ofNat_mul _ _).symm]
  exact runChunks_says _ (t.val * 16384) _ _ r _ 32
    (fun k hk _ l => phi_cell m c t r k hk l (by have := l.isLt; omega)) 32 0 (by omega) s (by omega) hs

/-- The last point extends them by its two chunks. -/
theorem point_says_last (c : Dev nD) (t : Fin 62) (ht : t.val = 61) (s : St Ideal) (r : Fin 64)
    (hs : Says (Cert.Own.rowScore (logits m c) r) (t.val * 16384) s r) :
    Says (Cert.Own.rowScore (logits m c) r) (t.val * 16384 + 1024) (point (F := Ideal) t.val (blockX m c t) (counters m c) s) r := by
  unfold point
  rw [if_pos ht, show t.val * 16384 + 1024 = t.val * 16384 + 512 * (0 + 2) by omega,
    show Scalar.muli (BitVec.ofNat 32 t.val) 16384#32 = BitVec.ofNat 32 (t.val * 16384) from (BitVec.ofNat_mul _ _).symm]
  exact runChunks_says _ (t.val * 16384) _ _ r _ 2
    (fun k hk _ l => maskTail_cell m c t r k hk l) 2 0 (by omega) s (by omega) hs

/-- Before point `n` the running maximum and index are those of the first `16384 n` columns. -/
theorem acc_says (c : Dev nD) (r : Fin 64) : ∀ n : Nat, n ≤ 61 →
    Says (Cert.Own.rowScore (logits m c) r) (n * 16384) (acc m c n) r
  | 0, _ => ⟨0, by
      have e : (acc m c 0).1 (col1 r) = ⊥ := ofBits_bot
      rw [e]
      exact Cert.Own.TopOn.start _ _ fun k hk => absurd hk (by simp), rfl⟩
  | n + 1, h => by
    have e := acc_succ m c ⟨n, by omega⟩
    simp only at e
    rw [e]
    exact point_says m c ⟨n, by omega⟩ (by simp only; omega) _ r (acc_says c r n (by omega))

/-- After the last point: in each row, the first column of the largest perturbed logit. -/
theorem acc_last (c : Dev nD) (r : Fin 64) : Says (Cert.Own.rowScore (logits m c) r) 1000000 (acc m c 62) r := by
  have e := acc_succ m c ⟨61, by omega⟩
  simp only at e
  obtain ⟨i, h1, h2⟩ := point_says_last m c ⟨61, by omega⟩ rfl _ r (acc_says m c r 61 le_rfl)
  rw [e]
  exact ⟨i, h1.trim (by omega) (by simp only; omega) fun k hk _ => Cert.Own.rowScore_of_ge _ _ _ hk, h2⟩

end Cert.KernelIdeal.Own

end
-- ==== Proof.RefWords.lean ====
/-
  What the reference's two calls of the generator compute: at each element, the generator's two words.
-/
module

public import proofs.«01_k».proof.Proof.Main
public import proofs.«01_k».proof.Proof.Words

@[expose] public section

set_option maxRecDepth 65536

noncomputable section

namespace Cert.ReferenceIdeal.Own

open Idealize.ShloMosaic Idealize.SL.Sem
open Cert.ReferenceIdeal Cert.ReferenceIdeal.Facts₀ Cert.ReferenceIdeal.Facts

variable {F : FTy → Type} [FloatOps F] [Facts] {s : Shape} {V : Vals F}

/-- A word vector's contents. -/
def wd (V : Vals F) (t : TR ⟨s, .i32⟩) : IVec s 32 := rd V t

/-- A single word's contents. -/
def w0 (V : Vals F) (t : TR ⟨S_, .i32⟩) : BitVec 32 := wd V t fun a => nomatch a

/-- Every index of a single word is the one. -/
theorem one_index (f : IVec S_ 32) (j : S_.Idx) : f j = f fun a => nomatch a := congrArg f (funext fun a => nomatch a)

/-- A single word broadcast. -/
theorem bc_apply (hb : S_.BroadcastsInDim s (![] : Fin 0 → Fin s.rank)) (k : TR ⟨S_, .i32⟩) (t : TR ⟨s, .i32⟩)
    (h : rd V t = broadcastInDim s ![] hb (rd V k)) (j : s.Idx) : wd V t j = w0 V k :=
  (congrFun h j).trans (one_index (wd V k) _)

/-- A constant. -/
theorem const_apply (c : TR ⟨S_, .i32⟩) (n : BitVec 32) (h : rd V c = constantI S_ 32 n) : w0 V c = n :=
  congrFun h _

/-- One round of the generator, element by element. -/
theorem round_val (hb : S_.BroadcastsInDim s (![] : Fin 0 → Fin s.rank)) (l r : BitVec 32) (a b : TR ⟨s, .i32⟩)
    (c c' : TR ⟨S_, .i32⟩) (t0 t1 t2 t3 t4 t5 t6 : TR ⟨s, .i32⟩) (hl : l.toNat < 32) (hr : r.toNat < 32)
    (h : Eqs V (round hb l r a b c c' t0 t1 t2 t3 t4 t5 t6)) (j : s.Idx) :
    (wd V t0 j, wd V t6 j) = Cert.Own.rnd l r (wd V a j, wd V b j) := by
  obtain ⟨h0, h1, h2, h3, h4, h5, h6, h7, h8, _⟩ := h
  have e0 : wd V t0 j = wd V a j + wd V b j := congrFun h0 j
  have e1 : wd V t1 j = l := (bc_apply hb c t1 h2 j).trans (const_apply c l h1)
  have e3 : wd V t3 j = r := (bc_apply hb c' t3 h5 j).trans (const_apply c' r h4)
  have e2 : wd V t2 j = wd V b j <<< l := by
    have e : wd V t2 j = IntOp.shli .host (wd V b j) (wd V t1 j) := congrFun h3 j
    rw [e, e1]; exact if_pos hl
  have e4 : wd V t4 j = wd V b j >>> r := by
    have e : wd V t4 j = IntOp.shrui .host (wd V b j) (wd V t3 j) := congrFun h6 j
    rw [e, e3]; exact if_pos hr
  have e5 : wd V t5 j = wd V t2 j ||| wd V t4 j := congrFun h7 j
  have e6 : wd V t6 j = wd V t0 j ^^^ wd V t5 j := congrFun h8 j
  rw [e6, e5, e2, e4, e0]; rfl

/-- Adding the key words between groups of rounds, element by element. -/
theorem inject_val (hb : S_.BroadcastsInDim s (![] : Fin 0 → Fin s.rank)) (n : BitVec 32) (a b : TR ⟨s, .i32⟩)
    (k k' c : TR ⟨S_, .i32⟩) (t0 t1 t2 t3 t4 t5 : TR ⟨s, .i32⟩) (h : Eqs V (inject hb n a b k k' c t0 t1 t2 t3 t4 t5)) (j : s.Idx) :
    (wd V t1 j, wd V t5 j) = Cert.Own.inj (w0 V k) (w0 V k') n (wd V a j, wd V b j) := by
  obtain ⟨h0, h1, h2, h3, h4, h5, h6, _⟩ := h
  have e0 : wd V t0 j = w0 V k := bc_apply hb k t0 h0 j
  have e1 : wd V t1 j = wd V a j + wd V t0 j := congrFun h1 j
  have e2 : wd V t2 j = w0 V k' := bc_apply hb k' t2 h2 j
  have e3 : wd V t3 j = wd V b j + wd V t2 j := congrFun h3 j
  have e4 : wd V t4 j = n := (bc_apply hb c t4 h5 j).trans (const_apply c n h4)
  have e5 : wd V t5 j = wd V t3 j + wd V t4 j := congrFun h6 j
  rw [e1, e5, e0, e3, e2, e4]; rfl

/-- What a group computes. -/
theorem group_val (R : Regs s) (d : TR ⟨s, .i32⟩) (i m : Nat) (q : Fin 4 → BitVec 32) (n : BitVec 32) (k k' : TR ⟨S_, .i32⟩)
    (a b : TR ⟨s, .i32⟩) (hq : ∀ x, (q x).toNat < 32 ∧ (32#32 - q x).toNat < 32) (h : Eqs V (group R d i m q n k k' a b)) (j : s.Idx) :
    (wd V (R.v d (i + 29)) j, wd V (R.v d (i + 33)) j)
      = Cert.Own.inj (w0 V k) (w0 V k') n (Cert.Own.rnd (q 3) (32#32 - q 3) (Cert.Own.rnd (q 2) (32#32 - q 2)
          (Cert.Own.rnd (q 1) (32#32 - q 1) (Cert.Own.rnd (q 0) (32#32 - q 0) (wd V a j, wd V b j))))) := by
  obtain ⟨g0, h⟩ := Eqs.append h
  obtain ⟨g1, h⟩ := Eqs.append h
  obtain ⟨g2, h⟩ := Eqs.append h
  obtain ⟨g3, h⟩ := Eqs.append h
  have r0 : (wd V (R.v d i) j, wd V (R.v d (i + 6)) j) = Cert.Own.rnd (q 0) (32#32 - q 0) (wd V a j, wd V b j) :=
    round_val _ _ _ _ _ _ _ _ _ _ _ _ _ _ (hq 0).1 (hq 0).2 g0 j
  have r1 : (wd V (R.v d (i + 7)) j, wd V (R.v d (i + 13)) j)
      = Cert.Own.rnd (q 1) (32#32 - q 1) (wd V (R.v d i) j, wd V (R.v d (i + 6)) j) :=
    round_val _ _ _ _ _ _ _ _ _ _ _ _ _ _ (hq 1).1 (hq 1).2 g1 j
  have r2 : (wd V (R.v d (i + 14)) j, wd V (R.v d (i + 20)) j)
      = Cert.Own.rnd (q 2) (32#32 - q 2) (wd V (R.v d (i + 7)) j, wd V (R.v d (i + 13)) j) :=
    round_val _ _ _ _ _ _ _ _ _ _ _ _ _ _ (hq 2).1 (hq 2).2 g2 j
  have r3 : (wd V (R.v d (i + 21)) j, wd V (R.v d (i + 27)) j)
      = Cert.Own.rnd (q 3) (32#32 - q 3) (wd V (R.v d (i + 14)) j, wd V (R.v d (i + 20)) j) :=
    round_val _ _ _ _ _ _ _ _ _ _ _ _ _ _ (hq 3).1 (hq 3).2 g3 j
  rw [← r0, ← r1, ← r2, ← r3]
  exact inject_val _ _ _ _ _ _ _ _ _ _ _ _ _ h j

/-- The even groups' rotations, and their complements, are less than the width of a word. -/
theorem qa_lt : ∀ x, (qa x).toNat < 32 ∧ (32#32 - qa x).toNat < 32 := by decide
/-- So are the odd groups' rotations. -/
theorem qb_lt : ∀ x, (qb x).toNat < 32 ∧ (32#32 - qb x).toNat < 32 := by decide

/-- What the generator's line computes. -/
theorem threefry_val (R : Regs s) (a0 a1 : TR ⟨S_, .i32⟩) (a2 a3 : TR ⟨s, .i32⟩) (h : Eqs V (threefry R a0 a1 a2 a3)) (j : s.Idx) :
    (wd V (R.v a2 171) j, wd V (R.v a2 175) j) = Cert.Own.gen (w0 V a0) (w0 V a1) (wd V a2 j) (wd V a3 j) := by
  obtain ⟨g, h⟩ := Eqs.append h
  obtain ⟨g1, h⟩ := Eqs.append h
  obtain ⟨g2, h⟩ := Eqs.append h
  obtain ⟨g3, h⟩ := Eqs.append h
  obtain ⟨g4, g5⟩ := Eqs.append h
  obtain ⟨h0, h1, h2, h3, h4, h5, h6, _⟩ := g
  have k0 : w0 V R.k = w0 V a0 ^^^ w0 V a1 := congrFun h0 _
  have k1 : w0 V R.k2 = w0 V R.k ^^^ w0 V (R.c 0) := congrFun h2 _
  have e2 : w0 V R.k2 = w0 V a0 ^^^ w0 V a1 ^^^ 466688986#32 := by rw [k1, const_apply _ _ h1, k0]
  have e3 : wd V (R.v a2 3) j = wd V a2 j + w0 V a0 := by
    have e : wd V (R.v a2 3) j = wd V a2 j + wd V (R.v a2 2) j := congrFun h4 j
    rw [e, bc_apply R.hb a0 _ h3 j]
  have e5 : wd V (R.v a2 5) j = wd V a3 j + w0 V a1 := by
    have e : wd V (R.v a2 5) j = wd V a3 j + wd V (R.v a2 4) j := congrFun h6 j
    rw [e, bc_apply R.hb a1 _ h5 j]
  have r1 := group_val R a2 6 1 qa _ _ _ _ _ qa_lt g1 j
  have r2 := group_val R a2 40 10 qb _ _ _ _ _ qb_lt g2 j
  have r3 := group_val R a2 74 19 qa _ _ _ _ _ qa_lt g3 j
  have r4 := group_val R a2 108 28 qb _ _ _ _ _ qb_lt g4 j
  have r5 := group_val R a2 142 37 qa _ _ _ _ _ qa_lt g5 j
  rw [e3, e5] at r1
  rw [r1] at r2
  rw [r2] at r3
  rw [r3] at r4
  rw [r4] at r5
  refine r5.trans ?_
  rw [e2]
  rfl

end Cert.ReferenceIdeal.Own

end
-- ==== Proof.RefVal.lean ====
/-
  What the reference leaves: in each row the first column of the largest perturbed logit.
-/
module

public import proofs.«01_k».proof.Proof.RefWords
public import proofs.«01_k».proof.Proof.Noise
public import proofs.«01_k».proof.Proof.Best

@[expose] public section

set_option maxRecDepth 65536

noncomputable section

namespace Cert.ReferenceIdeal.Own

open Idealize.ShloMosaic Idealize.SL.Sem
open Cert.ReferenceIdeal Cert.ReferenceIdeal.Facts₀ Cert.ReferenceIdeal.Facts

section Words

variable {F : FTy → Type} [FloatOps F] [Facts] {V : Vals F}

/-- A vector of one word has one index. -/
theorem one_elt (i j : S1.Idx) : i = j := funext fun a => by
  match a with
  | ⟨0, _⟩ => exact Subsingleton.elim (α := Fin 1) (i 0) (j 0)

/-- The index of a vector of one word. -/
def elt0 : S1.Idx := fun a => match a with | ⟨0, _⟩ => (0 : Fin 1)

/-- The first word of a pair. -/
theorem slice_fst {α : Type} (a b : S1.Idx → α) (h) (h') (j : S1.Idx) :
    extractStridedSlice S1 ![0] (concatenate S2 0 [⟨S1, a⟩, ⟨S1, b⟩] h) h' j = a j := by
  rw [one_elt j elt0]
  exact congrArg a (one_elt _ _)

/-- The second word of a pair. -/
theorem slice_snd {α : Type} (a b : S1.Idx → α) (h) (h') (j : S1.Idx) :
    extractStridedSlice S1 ![1] (concatenate S2 0 [⟨S1, a⟩, ⟨S1, b⟩] h) h' j = b j := by
  rw [one_elt j elt0]
  exact congrArg b (one_elt _ _)

/-- A vector of one word as a word. -/
theorem cast_one {α : Type} (x : S1.Idx → α) (h) (k : S_.Idx) (j : S1.Idx) : shapeCast S_ x h k = x j := congrArg x (one_elt _ _)

/-- A word shifted right by its whole width. -/
theorem shift_all (x : BitVec 32) : IntOp.shrui .host x 32#32 = 0#32 := rfl

/-- A pair of words by its two halves. -/
def Halves (V : Vals F) (t : TR ⟨S2, .i32⟩) (a b : BitVec 32) : Prop :=
  ∃ (x y : S1.Idx → BitVec 32) (h : _), rd V t = concatenate S2 0 [⟨S1, x⟩, ⟨S1, y⟩] h ∧ (∀ j, x j = a) ∧ ∀ j, y j = b

/-- The seed's keys are zero and zero, and the number folded in is 1. -/
theorem pre_val (h : Eqs V pre) : Halves V (.of main_v6) 0#32 0#32 ∧ w0 V (.of main_c_2) = 1#32 := by
  obtain ⟨h1, h2, h3, h4, h5, h6, h7, h8, h9, h10, h11, _⟩ := h
  have e0 : w0 V (.of main_v0) = 0#32 := by
    have e : w0 V (.of main_v0) = IntOp.shrui .host (w0 V (.of main_c)) (w0 V (.of main_c_0)) := congrFun h3 _
    rw [e, const_apply _ _ h2, shift_all]
  have e1 : w0 V (.of main_v1) = 0#32 := (congrFun h4 _).trans e0
  have e3 : w0 V (.of main_v3) = 0#32 := by
    have e : w0 V (.of main_v3) = w0 V (.of main_c) &&& w0 V (.of main_c_1) := congrFun h7 _
    rw [e, const_apply _ _ h1, const_apply _ _ h6]; rfl
  have e4 : w0 V (.of main_v4) = 0#32 := (congrFun h8 _).trans e3
  exact ⟨⟨_, _, _, h10, fun j => (bc_apply _ _ _ h5 j).trans e1, fun j => (bc_apply _ _ _ h9 j).trans e4⟩, const_apply _ _ h11⟩

/-- A word sliced out of a pair and taken as a word. -/
theorem half_fst {t : TR ⟨S2, .i32⟩} {a b : BitVec 32} (ht : Halves V t a b) (u : TR ⟨S1, .i32⟩) (v : TR ⟨S_, .i32⟩) (h' h'')
    (hu : rd V u = extractStridedSlice S1 ![0] (rd V t) h') (hv : rd V v = shapeCast S_ (rd V u) h'') : w0 V v = a := by
  obtain ⟨x, y, h, e, hx, hy⟩ := ht
  have j : S1.Idx := elt0
  have e1 : wd V u j = x j := by
    show rd V u j = x j
    rw [hu, e]; exact slice_fst x y h h' j
  have e2 : w0 V v = wd V u j := (congrFun hv _).trans (cast_one (rd V u) h'' _ j)
  rw [e2, e1, hx]

/-- The same for the second word. -/
theorem half_snd {t : TR ⟨S2, .i32⟩} {a b : BitVec 32} (ht : Halves V t a b) (u : TR ⟨S1, .i32⟩) (v : TR ⟨S_, .i32⟩) (h' h'')
    (hu : rd V u = extractStridedSlice S1 ![1] (rd V t) h') (hv : rd V v = shapeCast S_ (rd V u) h'') : w0 V v = b := by
  obtain ⟨x, y, h, e, hx, hy⟩ := ht
  have j : S1.Idx := elt0
  have e1 : wd V u j = y j := by
    show rd V u j = y j
    rw [hu, e]; exact slice_snd x y h h' j
  have e2 : w0 V v = wd V u j := (congrFun hv _).trans (cast_one (rd V u) h'' _ j)
  rw [e2, e1, hy]

/-- The fold's key words, and its counters: zero, and the number folded in. -/
theorem foldPre_val (a0 : TR ⟨S2, .i32⟩) (a1 : TR ⟨S_, .i32⟩) (φ : fn_threefry_fold_in.Bufs) {a b : BitVec 32} (ha : Halves V a0 a b)
    (h : Eqs V (foldPre a0 a1 φ)) (j : S1.Idx) :
    w0 V φ.v6 = a ∧ w0 V φ.v8 = b ∧ wd V φ.v9 j = 0#32 ∧ wd V φ.v10 j = w0 V a1 &&& 4294967295#32 := by
  obtain ⟨h1, h2, h3, h4, h5, h6, h7, h8, h9, h10, h11, h12, h13, _⟩ := h
  have e0 : w0 V φ.v0 = 0#32 := by
    have e : w0 V φ.v0 = IntOp.shrui .host (w0 V a1) (w0 V φ.c) := congrFun h2 _
    rw [e, const_apply _ _ h1, shift_all]
  have e2 : w0 V φ.v2 = w0 V a1 &&& 4294967295#32 := by
    have e : w0 V φ.v2 = w0 V a1 &&& w0 V φ.c_0 := congrFun h5 _
    rw [e, const_apply _ _ h4]
  refine ⟨half_fst ha _ _ _ _ h8 h9, half_snd ha _ _ _ _ h10 h11, ?_, ?_⟩
  · show rd V φ.v9 j = _
    rw [h12, h7]
    exact (slice_fst _ _ _ _ j).trans ((bc_apply _ _ _ h3 j).trans e0)
  · show rd V φ.v10 j = _
    rw [h13, h7]
    exact (slice_snd _ _ _ _ j).trans ((bc_apply _ _ _ h6 j).trans e2)

/-- The folded key pair. -/
theorem key_val (h : Eqs V pre) (h1 : Eqs V (foldPre (.of main_v6) (.of main_c_2) main_call0)) (h2 : Eqs V gen1)
    (h3 : Eqs V (foldPost main_call0)) : Halves V (.of main_v7) 928981903#32 3453687069#32 := by
  obtain ⟨p1, p2⟩ := pre_val h
  have hg : ∀ j, (wd V main_call0.call0.v171 j, wd V main_call0.call0.v175 j) = (928981903#32, 3453687069#32) := fun j => by
    obtain ⟨e6, e8, e9, e10⟩ := foldPre_val _ _ _ p1 h1 j
    have e := threefry_val _ _ _ _ _ h2 j
    rw [e6, e8, e9, e10, p2] at e
    exact e.trans Cert.Own.gen_one
  exact ⟨_, _, _, h3.1, fun j => congrArg Prod.fst (hg j), fun j => congrArg Prod.snd (hg j)⟩

/-- A double word vector's contents. -/
def wl {s : Shape} (V : Vals F) (t : TR ⟨s, .i64⟩) : IVec s 64 := rd V t

/-- A double word constant, broadcast. -/
theorem bcl_apply (k : TR ⟨S_, .i64⟩) (t : TR ⟨S64x1000000, .i64⟩) (n : BitVec 64) (hk : rd V k = constantI S_ 64 n)
    (h : rd V t = broadcastInDim S64x1000000 ![] bcast_S_S64x1000000 (rd V k)) (j : S64x1000000.Idx) : wl V t j = n := by
  show rd V t j = n
  rw [h, hk]; rfl

/-- The key words and the counters of the large call: each element's number, its high word zero. -/
theorem mid_val {a b : BitVec 32} (hk : Halves V (.of main_v7) a b) (h : Eqs V mid) :
    w0 V (.of main_v9) = a ∧ w0 V (.of main_v11) = b
      ∧ ∀ j : S64x1000000.Idx, wd V (.of main_v22) j = 0#32 ∧ wd V (.of main_v21) j = BitVec.ofNat 32 ((j 0).val * 1000000 + (j 1).val) := by
  obtain ⟨h1, h2, h3, h4, h5, h6, h7, h8, h9, h10, h11, h12, h13, h14, h15, h16, h17, h18, _⟩ := h
  refine ⟨half_fst hk _ _ _ _ h1 h2, half_snd hk _ _ _ _ h3 h4, fun j => ?_⟩
  have hj0 : (j 0).val < 64 := (j 0).isLt
  have hj1 : (j 1).val < 1000000 := (j 1).isLt
  have e18 : wl V (.of main_v18) j = BitVec.ofNat 64 ((j 0).val * 1000000 + (j 1).val) := by
    have e : wl V (.of main_v18) j = wl V (.of main_v15) j + wl V (.of main_v17) j := congrFun h13 j
    have e15 : wl V (.of main_v15) j = wl V (.of main_v14) j * wl V (.of main_v12) j := congrFun h9 j
    have e17 : wl V (.of main_v17) j = wl V (.of main_v16) j * wl V (.of main_v13) j := congrFun h12 j
    have e12 : wl V (.of main_v12) j = BitVec.ofNat 64 (j 0).val := congrFun h5 j
    have e13 : wl V (.of main_v13) j = BitVec.ofNat 64 (j 1).val := congrFun h6 j
    rw [e, e15, e17, bcl_apply _ _ _ h7 h8, bcl_apply _ _ _ h10 h11, e12, e13, BitVec.ofNat_add, BitVec.ofNat_mul, BitVec.mul_comm, BitVec.one_mul]
  have e20 : wl V (.of main_v20) j = 0#64 := by
    have e : wl V (.of main_v20) j = IntOp.shrui .host (wl V (.of main_v18) j) (wl V (.of main_v19) j) := congrFun h16 j
    rw [e, e18, bcl_apply _ _ _ h14 h15]
    show BitVec.ofNat 64 ((j 0).val * 1000000 + (j 1).val) >>> (32#64) = 0#64
    apply BitVec.eq_of_toNat_eq
    rw [BitVec.ushiftRight_eq', BitVec.toNat_ushiftRight, BitVec.toNat_ofNat, Nat.mod_eq_of_lt (by omega), Nat.shiftRight_eq_div_pow]
    show _ / 2 ^ 32 = 0
    omega
  constructor
  · have e : wd V (.of main_v22) j = (wl V (.of main_v20) j).setWidth 32 := congrFun h18 j
    rw [e, e20]; rfl
  · have e : wd V (.of main_v21) j = (wl V (.of main_v18) j).setWidth 32 := congrFun h17 j
    rw [e, e18]
    apply BitVec.eq_of_toNat_eq
    rw [BitVec.toNat_setWidth, BitVec.toNat_ofNat, BitVec.toNat_ofNat]
    omega

/-- The random bits of each element. -/
theorem bits_val (hk : Halves V (.of main_v7) 928981903#32 3453687069#32) (h1 : Eqs V mid) (h2 : Eqs V gen2) (j : S64x1000000.Idx) :
    wd V (.of main_v23_0) j ^^^ wd V (.of main_v23_1) j = Cert.Own.rowBits (j 0).val (j 1).val := by
  obtain ⟨e9, e11, hc⟩ := mid_val hk h1
  have e := threefry_val _ _ _ _ _ h2 j
  rw [e9, e11, (hc j).1, (hc j).2] at e
  have e' : (wd V (.of main_v23_0 : TR ⟨S64x1000000, .i32⟩) j, wd V (.of main_v23_1 : TR ⟨S64x1000000, .i32⟩) j) = _ := e
  unfold Cert.Own.rowBits
  rw [← e']

end Words

section Values

variable [Facts] {V : Vals Ideal}

/-- A float vector's contents. -/
def fl {s : Shape} (V : Vals Ideal) (t : TR ⟨s, .f32⟩) : s.Idx → EReal := rd V t

/-- A float constant, broadcast. -/
theorem bcf_apply (k : TR ⟨S_, .f32⟩) (t : TR ⟨S64x1000000, .f32⟩) (n : BitVec 32)
    (hk : rd V k = constant (F := Ideal) S_ .f32 n)
    (h : rd V t = broadcastInDim S64x1000000 ![] bcast_S_S64x1000000 (rd V k)) (j : S64x1000000.Idx) : fl V t j = Ideal.ofBits .f32 n := by
  show rd V t j = _
  rw [h, hk]; rfl

/-- The perturbed logits: each logit with its noise. -/
theorem post_val (h : Eqs V post) (j : S64x1000000.Idx) :
    fl V (.of main_v42) j = Cert.Own.score (fl V (.of main_arg0) j) (wd V (.of main_v23_0) j ^^^ wd V (.of main_v23_1) j) := by
  obtain ⟨h1, h2, h3, h4, h5, h6, h7, h8, h9, h10, h11, h12, h13, h14, h15, h16, h17, h18, h19, h20, h21, h22, h23, h24, h25, _⟩ := h
  have e28 : wd V (.of main_v28) j = ((wd V (.of main_v23_0) j ^^^ wd V (.of main_v23_1) j) >>> 9) ||| 1065353216#32 := by
    have e : wd V (.of main_v28) j = wd V (.of main_v26) j ||| wd V (.of main_v27) j := congrFun h7 j
    have e26 : wd V (.of main_v26) j = IntOp.shrui .host (wd V (.of main_v24) j) (wd V (.of main_v25) j) := congrFun h4 j
    have e24 : wd V (.of main_v24) j = wd V (.of main_v23_0) j ^^^ wd V (.of main_v23_1) j := congrFun h1 j
    have e25 : wd V (.of main_v25) j = 9#32 := (bc_apply _ _ _ h3 j).trans (const_apply _ _ h2)
    have e27 : wd V (.of main_v27) j = 1065353216#32 := (bc_apply _ _ _ h6 j).trans (const_apply _ _ h5)
    rw [e, e26, e24, e25, e27]; rfl
  have e29 : fl V (.of main_v29) j = Cert.Own.unit (wd V (.of main_v23_0) j ^^^ wd V (.of main_v23_1) j) := by
    have e : fl V (.of main_v29) j = Ideal.ofBits .f32 (wd V (.of main_v28) j) := congrFun h8 j
    rw [e, e28]; rfl
  have e31 : fl V (.of main_v31) j = fl V (.of main_v29) j - fl V (.of main_v30) j := congrFun h11 j
  have e33 : fl V (.of main_v33) j = fl V (.of main_v31) j * fl V (.of main_v32) j := congrFun h14 j
  have e35 : fl V (.of main_v35) j = fl V (.of main_v33) j + fl V (.of main_v34) j := congrFun h17 j
  have e37 : fl V (.of main_v37) j = max (fl V (.of main_v36) j) (fl V (.of main_v35) j) := congrFun h20 j
  have e38 : fl V (.of main_v38) j = Ideal.log (fl V (.of main_v37) j) := congrFun h21 j
  have e39 : fl V (.of main_v39) j = -fl V (.of main_v38) j := congrFun h22 j
  have e40 : fl V (.of main_v40) j = Ideal.log (fl V (.of main_v39) j) := congrFun h23 j
  have e41 : fl V (.of main_v41) j = -fl V (.of main_v40) j := congrFun h24 j
  have e42 : fl V (.of main_v42) j = fl V (.of main_arg0) j + fl V (.of main_v41) j := congrFun h25 j
  rw [e42, e41, e40, e39, e38, e37, e35, e33, e31, e29, bcf_apply _ _ _ h9 h10, bcf_apply _ _ _ h12 h13, bcf_apply _ _ _ h15 h16,
    bcf_apply _ _ _ h18 h19]
  exact Cert.Own.score_reference _ _

/-- The reference's step of its argmax is the comparison of two scored columns. -/
theorem reducer_red (a b : EReal × BitVec 32) : reducer_argmax_f32_i32 (F := Ideal) a b = Cert.Own.red a b := by
  obtain ⟨x, p⟩ := a
  obtain ⟨y, q⟩ := b
  show (Scalar.select (Ideal.cmp .ogt x y ||| Ideal.cmp .une x x) x y,
    Scalar.select ((Ideal.cmp .ogt x y ||| Ideal.cmp .une x x) ||| (Ideal.cmp .oeq x y &&& IntOp.cmpi .slt p q)) p q) = Cert.Own.red (x, p) (y, q)
  unfold Cert.Own.red Scalar.select Ideal.cmp IntOp.cmpi
  by_cases h1 : y < x <;> by_cases h2 : x = y <;> cases h3 : p.slt q <;> simp [h1, h2, h3]

/-- What the arg-max of a row leaves: the first column of its largest element. -/
theorem tops_val (a : TR ⟨S64x1000000, .f32⟩) (φ : fn_argmax.Bufs) (h : Eqs V (tops a φ)) (r : Fin 64) (q : S64.Idx) (hq : (q 0).val = r.val)
    (f : Nat → EReal) (hf : ∀ j : S64x1000000.Idx, (j 0).val = r.val → fl V a j = f (j 1).val) :
    ∃ v i, Cert.Own.Top f 1000000 v i ∧ wd V φ.v1_1 q = BitVec.ofNat 32 i := by
  obtain ⟨h1, h2, h3, h4, h5, _⟩ := h
  have e5 : wd V φ.v1_1 q = (Host.argReduce (F := Ideal) (φ := .f32) reducer_argmax_f32_i32 (fl V a) (wd V φ.v0) (fl V φ.cst) (wd V φ.c)
    reducesTo_S64x1000000_S64_d1 h_S_ q).2 := congrFun h5 q
  have hb : Ideal.ofBits .f32 0xFF800000#32 = ⊥ := by simp [Ideal.ofBits, Ideal.ieee]
  have ec : ∀ k, fl V φ.cst k = ⊥ := fun k => (congrFun h2 k).trans hb
  have ei : ∀ k, wd V φ.c k = BitVec.ofNat 32 0 := fun k => congrFun h3 k
  have e0 : ∀ j : S64x1000000.Idx, wd V φ.v0 j = BitVec.ofNat 32 (j 1).val := fun j => congrFun h1 j
  have hd : ∀ j : S64x1000000.Idx, reducesTo_S64x1000000_S64_d1.drop j = q ↔ (j 0).val = r.val := fun j => by
    have hv : (reducesTo_S64x1000000_S64_d1.drop j 0).val = (j 0).val := Shape.ReducesTo.drop_apply_val_of_eq _ j 0 0
    constructor
    · intro e
      rw [← hv, e, hq]
    · intro e
      funext b
      match b with
      | ⟨0, _⟩ => exact Fin.ext ((hv.trans e).trans hq.symm)
  have hlt : ∀ j : S64x1000000.Idx, (j 1).val < 1000000 := fun j => (j 1).isLt
  obtain ⟨v', i', e, ht⟩ := Cert.Own.TopOn.fold f (fun n : Fin S64x1000000.numel => (S64x1000000.rowMajor.symm n 1).val)
    ((List.finRange S64x1000000.numel).filter fun n => reducesTo_S64x1000000_S64_d1.drop (S64x1000000.rowMajor.symm n) = q)
    (fun n _ => lt_trans (hlt _) (by norm_num)) (fun _ => False) ⊥ 0 (by norm_num) (Cert.Own.TopOn.start f _ fun _ h => h)
  refine ⟨v', i', ht.congr (fun k => ?_) (fun _ _ => rfl), ?_⟩
  · constructor
    · rintro (h | ⟨n, _, rfl⟩)
      · exact h.elim
      · exact hlt _
    · intro hk
      refine Or.inr ⟨S64x1000000.rowMajor (Cert.Own.cell r ⟨k, hk⟩), ?_, ?_⟩
      · rw [List.mem_filter]
        refine ⟨List.mem_finRange _, decide_eq_true ?_⟩
        rw [Equiv.symm_apply_apply, hd]; rfl
      · rw [Equiv.symm_apply_apply]; rfl
  · rw [e5, Ideal.argReduce_eq_reduce2]
    refine Eq.trans (congrArg Prod.snd ?_) (congrArg Prod.snd e)
    refine Eq.trans (b := List.foldl (fun r n => reducer_argmax_f32_i32 (F := Ideal) r (fl V a (S64x1000000.rowMajor.symm n), wd V φ.v0 (S64x1000000.rowMajor.symm n)))
      (fl V φ.cst (Shape.Idx.first h_S_), wd V φ.c (Shape.Idx.first h_S_)) ((List.finRange S64x1000000.numel).filter fun n => reducesTo_S64x1000000_S64_d1.drop (S64x1000000.rowMajor.symm n) = q)) rfl ?_
    rw [ec, ei]
    refine List.foldl_ext _ _ _ fun p n hn => ?_
    have hn' := (hd _).mp (of_decide_eq_true (List.mem_filter.mp hn).2)
    rw [reducer_red, hf _ hn', e0]

/-- The reference's result in each row is the first column of its largest perturbed logit. -/
theorem ops_val (h : Eqs V ops) (x : (⟨2, ![64, 1000000]⟩ : Shape).Idx → EReal) (hx : fl V (.of main_arg0 : TR ⟨S64x1000000, .f32⟩) = x) (r : Fin 64)
    (q : S64.Idx) (hq : (q 0).val = r.val) :
    ∃ v i, Cert.Own.Top (Cert.Own.rowScore x r) 1000000 v i ∧ wd V (.of main_v43 : TR ⟨S64, .i32⟩) q = BitVec.ofNat 32 i := by
  obtain ⟨h1, h⟩ := h.append
  obtain ⟨h2, h⟩ := h.append
  obtain ⟨h3, h⟩ := h.append
  obtain ⟨h4, h⟩ := h.append
  obtain ⟨h5, h⟩ := h.append
  obtain ⟨h6, h⟩ := h.append
  obtain ⟨h7, h8⟩ := h.append
  have hk := key_val h1 h2 h3 h4
  refine tops_val _ _ h8 r q hq _ fun j hj => ?_
  have hj' : j = Cert.Own.cell r ⟨(j 1).val, (j 1).isLt⟩ := funext fun b => by
    match b with
    | ⟨0, _⟩ => exact Fin.ext hj
    | ⟨1, _⟩ => rfl
  rw [post_val h7 j, bits_val hk h5 h6 j, hx, hj, Cert.Own.rowScore_of_lt _ _ _ (j 1).isLt, ← hj']

end Values

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KRegion
public import proofs.«01_k».proof.Proof.KOut
public import proofs.«01_k».proof.Proof.Main
public import proofs.«01_k».proof.Proof.KGrid
public import proofs.«01_k».proof.Proof.RefVal
public import Idealize.ShloMosaic.Adequacy
public import Idealize.ShloMosaic.Init

@[expose] public section

set_option maxRecDepth 65536

noncomputable section

namespace Cert.Proof

open Idealize.ShloMosaic Idealize.SL.Sem Cert.Kernel

/-- The kernel runs at the device's floats, leaves its argument unchanged and ends with every counter at zero. -/
theorem frame_kernel : Cert.quiescent_Kernel (hKernel := Cert.Kernel.Gen.facts) := fun m g _ => Cert.Kernel.Own.frame_run m g

/-- So does the kernel read at ideal values. -/
theorem frame_kernelIdeal : Cert.quiescent_KernelIdeal (hKernelIdeal := Cert.KernelIdeal.Gen.facts) :=
  fun m g _ => Cert.KernelIdeal.Own.frame_run m g

/-- So does the reference. -/
theorem frame_referenceIdeal : Cert.quiescent_ReferenceIdeal (hReferenceIdeal := Cert.ReferenceIdeal.Gen.facts) :=
  fun m g _ => Cert.ReferenceIdeal.Own.frame_run m g

/-- In each row the kernel's index and the reference's are both the first column of the largest perturbed logit. -/
theorem row_agree (m : (ℓ : Loc KernelIdeal.nD KernelIdeal.τ KernelIdeal.sig) → Buf (Elt Ideal) ℓ) (c : Dev KernelIdeal.nD)
    (V : Cert.ReferenceIdeal.Own.Vals Ideal) (h : Cert.ReferenceIdeal.Own.Eqs V Cert.ReferenceIdeal.Own.ops)
    (hx : Cert.ReferenceIdeal.Own.fl V (.of ReferenceIdeal.main_arg0 : Cert.ReferenceIdeal.Own.TR ⟨ReferenceIdeal.S64x1000000, .f32⟩)
      = Cert.KernelIdeal.Own.logits m c) (q : KernelIdeal.S64.Idx) :
    Cert.ReferenceIdeal.Own.wd V (.of ReferenceIdeal.main_v43 : Cert.ReferenceIdeal.Own.TR ⟨ReferenceIdeal.S64, .i32⟩) q
      = shapeCast KernelIdeal.S64 (Cert.KernelIdeal.Own.acc m c 62).2 KernelIdeal.Facts₀.shapeCasts_S64x1_S64 q := by
  obtain ⟨v, i, h1, h2⟩ := Cert.ReferenceIdeal.Own.ops_val h _ hx (q 0) q rfl
  obtain ⟨i', h3, h4⟩ := Cert.KernelIdeal.Own.acc_last m c (q 0)
  have e : shapeCast KernelIdeal.S64 (Cert.KernelIdeal.Own.acc m c 62).2 KernelIdeal.Facts₀.shapeCasts_S64x1_S64 q
      = (Cert.KernelIdeal.Own.acc m c 62).2 (Cert.KernelIdeal.Own.col1 (q 0)) := by
    refine shapeCast_apply _ _ _ _ ?_
    rw [Shape.rowMajor_val_one, Shape.rowMajor_val_two]
    show (q 0).val * 1 + 0 = (q 0).val
    omega
  rw [h2, e, h4, (h1.unique h3).2]

/-- At ideal values the kernel and the reference leave the same result, whatever the logits. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => shapeCast KernelIdeal.S64 (Cert.KernelIdeal.Own.acc m c 62).2 KernelIdeal.Facts₀.shapeCasts_S64x1_S64,
    Cert.KernelIdeal.Own.value_run m g,
    θ_run_mono (Cert.ReferenceIdeal.Own.run_line m' g') fun r h c => by
      have ha := (Cert.ReferenceIdeal.Own.settled Cert.ReferenceIdeal.Own.ops 1 (StableHlo.launchContents m' c)
        Cert.ReferenceIdeal.Own.ops_ordered).2 ReferenceIdeal.main_arg0 (by decide)
      refine ⟨((h c).2 ReferenceIdeal.main_v43).trans ?_, ((h c).2 ReferenceIdeal.main_arg0).trans ha⟩
      exact funext fun q => row_agree m c _ (h c).1 (ha.trans (hm c)) q⟩

/-- All the claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
